-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x1024x128x128 : Shape := ⟨4, ![1, 1024, 128, 128]⟩
abbrev S512x1024x3x3 : Shape := ⟨4, ![512, 1024, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩

class Facts : Prop where
  bcast_S_S1x1024x128x128 : S_.BroadcastsInDim S1x1024x128x128 (![] : Fin 0 → Fin S1x1024x128x128.rank)
  bcast_S_S512x1024x3x3 : S_.BroadcastsInDim S512x1024x3x3 (![] : Fin 0 → Fin S512x1024x3x3.rank)
  bcast_S_S512 : S_.BroadcastsInDim S512 (![] : Fin 0 → Fin S512.rank)
  bcast_S_S18x512x1x1 : S_.BroadcastsInDim S18x512x1x1 (![] : Fin 0 → Fin S18x512x1x1.rank)
  bcast_S_S18 : S_.BroadcastsInDim S18 (![] : Fin 0 → Fin S18.rank)

variable [Facts]

def fn {F : FTy → Type} [FloatOps F] (main_arg0 : FVec F S1x1024x128x128 .f32) (main_arg1 : FVec F S512x1024x3x3 .f32) (main_arg2 : FVec F S512 .f32) (main_arg3 : FVec F S18x512x1x1 .f32) (main_arg4 : FVec F S18 .f32) (main_arg5 : FVec F S36x512x1x1 .f32) (main_arg6 : FVec F S36 .f32) : IVec S1x1024x128x128 1 × IVec S512x1024x3x3 1 × IVec S512 1 × IVec S18x512x1x1 1 × IVec S18 1 :=
  let main_v0 : FVec F S1x1024x128x128 .f32 := Host.absf main_arg0
  let main_cst : FVec F S_ .f32 := constant S_ .f32 0x7F800000#32
  let main_v1 : FVec F S1x1024x128x128 .f32 := broadcastInDim S1x1024x128x128 ![] bcast_S_S1x1024x128x128 main_cst
  let main_v2 : IVec S1x1024x128x128 1 := cmpf .olt main_v0 main_v1
  let main_v3 : FVec F S512x1024x3x3 .f32 := Host.absf main_arg1
  let main_cst_0 : FVec F S_ .f32 := constant S_ .f32 0x7F800000#32
  let main_v4 : FVec F S512x1024x3x3 .f32 := broadcastInDim S512x1024x3x3 ![] bcast_S_S512x1024x3x3 main_cst_0
  let main_v5 : IVec S512x1024x3x3 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S18x512x1x1 .f32 := Host.absf main_arg3
  let main_cst_2 : FVec F S_ .f32 := constant S_ .f32 0x7F800000#32
  let main_v10 : FVec F S18x512x1x1 .f32 := broadcastInDim S18x512x1x1 ![] bcast_S_S18x512x1x1 main_cst_2
  let main_v11 : IVec S18x512x1x1 1 := cmpf .olt main_v9 main_v10
  let main_v12 : FVec F S18 .f32 := Host.absf main_arg4
  let main_cst_3 : FVec F S_ .f32 := constant S_ .f32 0x7F800000#32
  let main_v13 : FVec F S18 .f32 := broadcastInDim S18 ![] bcast_S_S18 main_cst_3
  let main_v14 : IVec S18 1 := cmpf .olt main_v12 main_v13
  (main_v2, main_v5, main_v8, main_v11, main_v14)
-- ==== Kernel.lean ====
abbrev S1x1024x128x128 : Shape := ⟨4, ![1, 1024, 128, 128]⟩
abbrev S512x1024x3x3 : Shape := ⟨4, ![512, 1024, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S9 : Shape := ⟨1, ![9]⟩
abbrev S45 : Shape := ⟨1, ![45]⟩
abbrev S1024x128x128 : Shape := ⟨3, ![1024, 128, 128]⟩
abbrev S128x128x1024 : Shape := ⟨3, ![128, 128, 1024]⟩
abbrev S_ : Shape := ⟨0, ![]⟩
abbrev S132x130x1024 : Shape := ⟨3, ![132, 130, 1024]⟩
abbrev S3x3x1024x512 : Shape := ⟨4, ![3, 3, 1024, 512]⟩
abbrev S9x1024x512 : Shape := ⟨3, ![9, 1024, 512]⟩
abbrev S1x512 : Shape := ⟨2, ![1, 512]⟩
abbrev S36x512 : Shape := ⟨2, ![36, 512]⟩
abbrev S18x512 : Shape := ⟨2, ![18, 512]⟩
abbrev S9x4x512 : Shape := ⟨3, ![9, 4, 512]⟩
abbrev S4x9x512 : Shape := ⟨3, ![4, 9, 512]⟩
abbrev S9x1 : Shape := ⟨2, ![9, 1]⟩
abbrev S9x512 : Shape := ⟨2, ![9, 512]⟩
abbrev S45x512 : Shape := ⟨2, ![45, 512]⟩
abbrev S512x45 : Shape := ⟨2, ![512, 45]⟩
abbrev S9x4 : Shape := ⟨2, ![9, 4]⟩
abbrev S4x9 : Shape := ⟨2, ![4, 9]⟩
abbrev S1x45 : Shape := ⟨2, ![1, 45]⟩
abbrev S16384x45 : Shape := ⟨2, ![16384, 45]⟩
abbrev S16384x5x9 : Shape := ⟨3, ![16384, 5, 9]⟩
abbrev S16384x9x5 : Shape := ⟨3, ![16384, 9, 5]⟩
abbrev S147456x5 : Shape := ⟨2, ![147456, 5]⟩
abbrev S4x130x1024 : Shape := ⟨3, ![4, 130, 1024]⟩
abbrev S512x512 : Shape := ⟨2, ![512, 512]⟩
abbrev S1x1024x512 : Shape := ⟨3, ![1, 1024, 512]⟩
abbrev S1024x512 : Shape := ⟨2, ![1024, 512]⟩
abbrev S4x128x1024 : Shape := ⟨3, ![4, 128, 1024]⟩
abbrev S512x1024 : Shape := ⟨2, ![512, 1024]⟩
abbrev S3x128x1024 : Shape := ⟨3, ![3, 128, 1024]⟩
abbrev S384x1024 : Shape := ⟨2, ![384, 1024]⟩
abbrev S384x512 : Shape := ⟨2, ![384, 512]⟩
abbrev S1x128x1024 : Shape := ⟨3, ![1, 128, 1024]⟩
abbrev S128x1024 : Shape := ⟨2, ![128, 1024]⟩
abbrev S128x512 : Shape := ⟨2, ![128, 512]⟩
abbrev S2x128x1024 : Shape := ⟨3, ![2, 128, 1024]⟩
abbrev S256x1024 : Shape := ⟨2, ![256, 1024]⟩
abbrev S256x512 : Shape := ⟨2, ![256, 512]⟩
abbrev S512x1 : Shape := ⟨2, ![512, 1]⟩

abbrev nBuf : Space → Nat
  | .hbm => 79
  | .vmem => 13
  | .smem => 0
  | _ => 0

abbrev bufTy : (tb : Table) → Fin (tcTables nBuf tb) → BufTy
  | .hbm, ⟨0, _⟩ => ⟨S1x1024x128x128, .f32⟩
  | .hbm, ⟨1, _⟩ => ⟨S512x1024x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S9, .i32⟩
  | .hbm, ⟨8, _⟩ => ⟨S9, .i1⟩
  | .hbm, ⟨9, _⟩ => ⟨S9, .i32⟩
  | .hbm, ⟨10, _⟩ => ⟨S9, .i1⟩
  | .hbm, ⟨11, _⟩ => ⟨S9, .i1⟩
  | .hbm, ⟨12, _⟩ => ⟨S9, .i1⟩
  | .hbm, ⟨13, _⟩ => ⟨S45, .f32⟩
  | .hbm, ⟨14, _⟩ => ⟨S45, .f32⟩
  | .hbm, ⟨15, _⟩ => ⟨S1024x128x128, .f32⟩
  | .hbm, ⟨16, _⟩ => ⟨S128x128x1024, .f32⟩
  | .hbm, ⟨17, _⟩ => ⟨S_, .i32⟩
  | .hbm, ⟨18, _⟩ => ⟨S_, .f32⟩
  | .hbm, ⟨19, _⟩ => ⟨S132x130x1024, .f32⟩
  | .hbm, ⟨20, _⟩ => ⟨S132x130x1024, .fp8e4m3⟩
  | .hbm, ⟨21, _⟩ => ⟨S3x3x1024x512, .f32⟩
  | .hbm, ⟨22, _⟩ => ⟨S9x1024x512, .f32⟩
  | .hbm, ⟨23, _⟩ => ⟨S_, .f32⟩
  | .hbm, ⟨24, _⟩ => ⟨S9x1024x512, .f32⟩
  | .hbm, ⟨25, _⟩ => ⟨S9x1024x512, .f32⟩
  | .hbm, ⟨26, _⟩ => ⟨S9x1024x512, .fp8e4m3⟩
  | .hbm, ⟨27, _⟩ => ⟨S_, .f32⟩
  | .hbm, ⟨28, _⟩ => ⟨S512, .f32⟩
  | .hbm, ⟨29, _⟩ => ⟨S512, .f32⟩
  | .hbm, ⟨30, _⟩ => ⟨S1x512, .f32⟩
  | .hbm, ⟨31, _⟩ => ⟨S36x512, .f32⟩
  | .hbm, ⟨32, _⟩ => ⟨S18x512, .f32⟩
  | .hbm, ⟨33, _⟩ => ⟨S9x4x512, .f32⟩
  | .hbm, ⟨34, _⟩ => ⟨S4x9x512, .f32⟩
  | .hbm, ⟨35, _⟩ => ⟨S36x512, .f32⟩
  | .hbm, ⟨36, _⟩ => ⟨S_, .i32⟩
  | .hbm, ⟨37, _⟩ => ⟨S9, .i32⟩
  | .hbm, ⟨38, _⟩ => ⟨S9, .i32⟩
  | .hbm, ⟨39, _⟩ => ⟨S9, .i32⟩
  | .hbm, ⟨40, _⟩ => ⟨S9x1, .i32⟩
  | .hbm, ⟨41, _⟩ => ⟨S9x512, .f32⟩
  | .hbm, ⟨42, _⟩ => ⟨S_, .i32⟩
  | .hbm, ⟨43, _⟩ => ⟨S9, .i32⟩
  | .hbm, ⟨44, _⟩ => ⟨S9, .i32⟩
  | .hbm, ⟨45, _⟩ => ⟨S9, .i32⟩
  | .hbm, ⟨46, _⟩ => ⟨S9x1, .i32⟩
  | .hbm, ⟨47, _⟩ => ⟨S9x512, .f32⟩
  | .hbm, ⟨48, _⟩ => ⟨S9x512, .f32⟩
  | .hbm, ⟨49, _⟩ => ⟨S45x512, .f32⟩
  | .hbm, ⟨50, _⟩ => ⟨S512x45, .f32⟩
  | .hbm, ⟨51, _⟩ => ⟨S_, .f32⟩
  | .hbm, ⟨52, _⟩ => ⟨S512x45, .f32⟩
  | .hbm, ⟨53, _⟩ => ⟨S512x45, .f32⟩
  | .hbm, ⟨54, _⟩ => ⟨S512x45, .bf16⟩
  | .hbm, ⟨55, _⟩ => ⟨S9x4, .f32⟩
  | .hbm, ⟨56, _⟩ => ⟨S4x9, .f32⟩
  | .hbm, ⟨57, _⟩ => ⟨S36, .f32⟩
  | .hbm, ⟨58, _⟩ => ⟨S_, .i32⟩
  | .hbm, ⟨59, _⟩ => ⟨S9, .i32⟩
  | .hbm, ⟨60, _⟩ => ⟨S9, .i32⟩
  | .hbm, ⟨61, _⟩ => ⟨S9, .i32⟩
  | .hbm, ⟨62, _⟩ => ⟨S9x1, .i32⟩
  | .hbm, ⟨63, _⟩ => ⟨S9, .f32⟩
  | .hbm, ⟨64, _⟩ => ⟨S_, .i32⟩
  | .hbm, ⟨65, _⟩ => ⟨S9, .i32⟩
  | .hbm, ⟨66, _⟩ => ⟨S9, .i32⟩
  | .hbm, ⟨67, _⟩ => ⟨S9, .i32⟩
  | .hbm, ⟨68, _⟩ => ⟨S9x1, .i32⟩
  | .hbm, ⟨69, _⟩ => ⟨S9, .f32⟩
  | .hbm, ⟨70, _⟩ => ⟨S9, .f32⟩
  | .hbm, ⟨71, _⟩ => ⟨S45, .f32⟩
  | .hbm, ⟨72, _⟩ => ⟨S1x45, .f32⟩
  | .hbm, ⟨73, _⟩ => ⟨S1x45, .f32⟩
  | .hbm, ⟨74, _⟩ => ⟨S1x45, .f32⟩
  | .hbm, ⟨75, _⟩ => ⟨S16384x45, .f32⟩
  | .hbm, ⟨76, _⟩ => ⟨S16384x5x9, .f32⟩
  | .hbm, ⟨77, _⟩ => ⟨S16384x9x5, .f32⟩
  | .hbm, ⟨78, _⟩ => ⟨S147456x5, .f32⟩
  | .local _ .vmem, ⟨0, _⟩ => ⟨S4x130x1024, .fp8e4m3⟩
  | .local _ .vmem, ⟨1, _⟩ => ⟨S4x130x1024, .fp8e4m3⟩
  | .local _ .vmem, ⟨2, _⟩ => ⟨S4x130x1024, .fp8e4m3⟩
  | .local _ .vmem, ⟨3, _⟩ => ⟨S4x130x1024, .fp8e4m3⟩
  | .local _ .vmem, ⟨4, _⟩ => ⟨S9x1024x512, .fp8e4m3⟩
  | .local _ .vmem, ⟨5, _⟩ => ⟨S1x512, .f32⟩
  | .local _ .vmem, ⟨6, _⟩ => ⟨S512x45, .bf16⟩
  | .local _ .vmem, ⟨7, _⟩ => ⟨S1x45, .f32⟩
  | .local _ .vmem, ⟨8, _⟩ => ⟨S1x45, .f32⟩
  | .local _ .vmem, ⟨9, _⟩ => ⟨S1x45, .f32⟩
  | .local _ .vmem, ⟨10, _⟩ => ⟨S512x45, .f32⟩
  | .local _ .vmem, ⟨11, _⟩ => ⟨S512x45, .f32⟩
  | .local _ .vmem, ⟨12, _⟩ => ⟨S512x512, .f32⟩
  | _, _ => ⟨S1x1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_c_0 : Ref sig .tc := ⟨.hbm, 8, rfl⟩
abbrev main_call0_c_1 : Ref sig .tc := ⟨.hbm, 9, rfl⟩
abbrev main_call0_c_2 : Ref sig .tc := ⟨.hbm, 10, rfl⟩
abbrev main_call0_c_3 : Ref sig .tc := ⟨.hbm, 11, rfl⟩
abbrev main_call0_c_4 : Ref sig .tc := ⟨.hbm, 12, rfl⟩
abbrev main_call0_cst : Ref sig .tc := ⟨.hbm, 13, rfl⟩
abbrev main_call0_cst_5 : Ref sig .tc := ⟨.hbm, 14, rfl⟩
abbrev main_call0_v0 : Ref sig .tc := ⟨.hbm, 15, rfl⟩
abbrev main_call0_v1 : Ref sig .tc := ⟨.hbm, 16, rfl⟩
abbrev main_call0_c_6 : Ref sig .tc := ⟨.hbm, 17, rfl⟩
abbrev main_call0_call0_v0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_7 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_cst_8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_c_9 : Ref sig .tc := ⟨.hbm, 36, rfl⟩
abbrev main_call0_v17 : Ref sig .tc := ⟨.hbm, 37, rfl⟩
abbrev main_call0_v18 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_c_10 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_cst_11 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_c_12 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_c_13 : Ref sig .tc := ⟨.hbm, 64, rfl⟩
abbrev main_call0_v41 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_v0 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x130x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x130x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x1024x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x45 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x45 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x45 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x45 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x45 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1x1024x128x128 : Shape := ⟨4, ![1, 1024, 128, 128]⟩
abbrev S512x1024x3x3 : Shape := ⟨4, ![512, 1024, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S1024x128x128 : Shape := ⟨3, ![1024, 128, 128]⟩
abbrev S_ : Shape := ⟨0, ![]⟩
abbrev S1024x130x130 : Shape := ⟨3, ![1024, 130, 130]⟩
abbrev S512x1024x1x1 : Shape := ⟨4, ![512, 1024, 1, 1]⟩
abbrev S512x1024 : Shape := ⟨2, ![512, 1024]⟩
abbrev S512x128x128 : Shape := ⟨3, ![512, 128, 128]⟩
abbrev S512x1x1 : Shape := ⟨3, ![512, 1, 1]⟩
abbrev S18x512 : Shape := ⟨2, ![18, 512]⟩
abbrev S18x128x128 : Shape := ⟨3, ![18, 128, 128]⟩
abbrev S18x1x1 : Shape := ⟨3, ![18, 1, 1]⟩
abbrev S2x1152x128 : Shape := ⟨3, ![2, 1152, 128]⟩
abbrev S1152x128 : Shape := ⟨2, ![1152, 128]⟩
abbrev S1x1152x128 : Shape := ⟨3, ![1, 1152, 128]⟩
abbrev S36x512 : Shape := ⟨2, ![36, 512]⟩
abbrev S36x128x128 : Shape := ⟨3, ![36, 128, 128]⟩
abbrev S36x1x1 : Shape := ⟨3, ![36, 1, 1]⟩
abbrev S128x128x18 : Shape := ⟨3, ![128, 128, 18]⟩
abbrev S147456x2 : Shape := ⟨2, ![147456, 2]⟩
abbrev S128x128x36 : Shape := ⟨3, ![128, 128, 36]⟩
abbrev S147456x4 : Shape := ⟨2, ![147456, 4]⟩
abbrev S128x128x9 : Shape := ⟨3, ![128, 128, 9]⟩
abbrev S147456 : Shape := ⟨1, ![147456]⟩
abbrev S16384x1x3 : Shape := ⟨3, ![16384, 1, 3]⟩
abbrev S16384x3x3 : Shape := ⟨3, ![16384, 3, 3]⟩
abbrev S16384x3x1 : Shape := ⟨3, ![16384, 3, 1]⟩
abbrev S147456x1 : Shape := ⟨2, ![147456, 1]⟩
abbrev S147456x5 : Shape := ⟨2, ![147456, 5]⟩

abbrev nBuf : Space → Nat
  | .hbm => 153
  | .vmem => 0
  | .smem => 0
  | _ => 0

abbrev hbmTy0_0 (i : Nat) : BufTy := match i % 128 with
  | 0 => ⟨S1x1024x128x128, .f32⟩
  | 1 => ⟨S512x1024x3x3, .f32⟩
  | 2 => ⟨S512, .f32⟩
  | 3 => ⟨S18x512x1x1, .f32⟩
  | 4 => ⟨S18, .f32⟩
  | 5 => ⟨S36x512x1x1, .f32⟩
  | 6 => ⟨S36, .f32⟩
  | 7 => ⟨S1024x128x128, .f32⟩
  | 8 => ⟨S_, .i32⟩
  | 9 => ⟨S_, .f32⟩
  | 10 => ⟨S1024x130x130, .f32⟩
  | 11 => ⟨S512x1024x1x1, .f32⟩
  | 12 => ⟨S512x1024, .f32⟩
  | 13 => ⟨S1024x128x128, .f32⟩
  | 14 => ⟨S512x128x128, .f32⟩
  | 15 => ⟨S512x1024x1x1, .f32⟩
  | 16 => ⟨S512x1024, .f32⟩
  | 17 => ⟨S1024x128x128, .f32⟩
  | 18 => ⟨S512x128x128, .f32⟩
  | 19 => ⟨S512x128x128, .f32⟩
  | 20 => ⟨S512x1024x1x1, .f32⟩
  | 21 => ⟨S512x1024, .f32⟩
  | 22 => ⟨S1024x128x128, .f32⟩
  | 23 => ⟨S512x128x128, .f32⟩
  | 24 => ⟨S512x128x128, .f32⟩
  | 25 => ⟨S512x1024x1x1, .f32⟩
  | 26 => ⟨S512x1024, .f32⟩
  | 27 => ⟨S1024x128x128, .f32⟩
  | 28 => ⟨S512x128x128, .f32⟩
  | 29 => ⟨S512x128x128, .f32⟩
  | 30 => ⟨S512x1024x1x1, .f32⟩
  | 31 => ⟨S512x1024, .f32⟩
  | 32 => ⟨S1024x128x128, .f32⟩
  | 33 => ⟨S512x128x128, .f32⟩
  | 34 => ⟨S512x128x128, .f32⟩
  | 35 => ⟨S512x1024x1x1, .f32⟩
  | 36 => ⟨S512x1024, .f32⟩
  | 37 => ⟨S1024x128x128, .f32⟩
  | 38 => ⟨S512x128x128, .f32⟩
  | 39 => ⟨S512x128x128, .f32⟩
  | 40 => ⟨S512x1024x1x1, .f32⟩
  | 41 => ⟨S512x1024, .f32⟩
  | 42 => ⟨S1024x128x128, .f32⟩
  | 43 => ⟨S512x128x128, .f32⟩
  | 44 => ⟨S512x128x128, .f32⟩
  | 45 => ⟨S512x1024x1x1, .f32⟩
  | 46 => ⟨S512x1024, .f32⟩
  | 47 => ⟨S1024x128x128, .f32⟩
  | 48 => ⟨S512x128x128, .f32⟩
  | 49 => ⟨S512x128x128, .f32⟩
  | 50 => ⟨S512x1024x1x1, .f32⟩
  | 51 => ⟨S512x1024, .f32⟩
  | 52 => ⟨S1024x128x128, .f32⟩
  | 53 => ⟨S512x128x128, .f32⟩
  | 54 => ⟨S512x128x128, .f32⟩
  | 55 => ⟨S512x1x1, .f32⟩
  | 56 => ⟨S512x128x128, .f32⟩
  | 57 => ⟨S512x128x128, .f32⟩
  | 58 => ⟨S_, .f32⟩
  | 59 => ⟨S512x128x128, .f32⟩
  | 60 => ⟨S512x128x128, .f32⟩
  | 61 => ⟨S18x512, .f32⟩
  | 62 => ⟨S18x128x128, .f32⟩
  | 63 => ⟨S18x1x1, .f32⟩
  | 64 => ⟨S18x128x128, .f32⟩
  | 65 => ⟨S18x128x128, .f32⟩
  | 66 => ⟨S2x1152x128, .f32⟩
  | 67 => ⟨S_, .f32⟩
  | 68 => ⟨S1152x128, .f32⟩
  | 69 => ⟨S_, .f32⟩
  | 70 => ⟨S1152x128, .f32⟩
  | 71 => ⟨S1152x128, .f32⟩
  | 72 => ⟨S1x1152x128, .f32⟩
  | 73 => ⟨S2x1152x128, .f32⟩
  | 74 => ⟨S2x1152x128, .f32⟩
  | 75 => ⟨S2x1152x128, .f32⟩
  | 76 => ⟨S_, .f32⟩
  | 77 => ⟨S1152x128, .f32⟩
  | 78 => ⟨S1x1152x128, .f32⟩
  | 79 => ⟨S2x1152x128, .f32⟩
  | 80 => ⟨S2x1152x128, .f32⟩
  | 81 => ⟨S18x128x128, .f32⟩
  | 82 => ⟨S36x512, .f32⟩
  | 83 => ⟨S36x128x128, .f32⟩
  | 84 => ⟨S36x1x1, .f32⟩
  | 85 => ⟨S36x128x128, .f32⟩
  | 86 => ⟨S36x128x128, .f32⟩
  | 87 => ⟨S128x128x18, .f32⟩
  | 88 => ⟨S147456x2, .f32⟩
  | 89 => ⟨S128x128x36, .f32⟩
  | 90 => ⟨S147456x4, .f32⟩
  | 91 => ⟨S128x128x9, .i32⟩
  | 92 => ⟨S_, .i32⟩
  | 93 => ⟨S128x128x9, .i32⟩
  | 94 => ⟨S128x128x9, .i32⟩
  | 95 => ⟨S128x128x9, .f32⟩
  | 96 => ⟨S147456, .f32⟩
  | 97 => ⟨S128x128x9, .i32⟩
  | 98 => ⟨S_, .i32⟩
  | 99 => ⟨S128x128x9, .i32⟩
  | 100 => ⟨S128x128x9, .i32⟩
  | 101 => ⟨S128x128x9, .f32⟩
  | 102 => ⟨S147456, .f32⟩
  | 103 => ⟨S_, .f32⟩
  | 104 => ⟨S16384x1x3, .f32⟩
  | 105 => ⟨S_, .f32⟩
  | 106 => ⟨S16384x1x3, .f32⟩
  | 107 => ⟨S_, .f32⟩
  | 108 => ⟨S16384x1x3, .f32⟩
  | 109 => ⟨S16384x3x3, .f32⟩
  | 110 => ⟨S_, .f32⟩
  | 111 => ⟨S16384x1x3, .f32⟩
  | 112 => ⟨S_, .f32⟩
  | 113 => ⟨S16384x1x3, .f32⟩
  | 114 => ⟨S_, .f32⟩
  | 115 => ⟨S16384x1x3, .f32⟩
  | 116 => ⟨S16384x3x3, .f32⟩
  | 117 => ⟨S_, .f32⟩
  | 118 => ⟨S16384x3x1, .f32⟩
  | 119 => ⟨S_, .f32⟩
  | 120 => ⟨S16384x3x1, .f32⟩
  | 121 => ⟨S_, .f32⟩
  | 122 => ⟨S16384x3x1, .f32⟩
  | 123 => ⟨S16384x3x3, .f32⟩
  | 124 => ⟨S16384x3x3, .f32⟩
  | 125 => ⟨S147456, .f32⟩
  | 126 => ⟨S16384x3x3, .f32⟩
  | 127 => ⟨S147456, .f32⟩
  | _ => ⟨S1x1024x128x128, .f32⟩

abbrev hbmTy0_1 (i : Nat) : BufTy := match i % 128 with
  | 0 => ⟨S147456x1, .f32⟩
  | 1 => ⟨S147456, .f32⟩
  | 2 => ⟨S147456, .f32⟩
  | 3 => ⟨S147456, .f32⟩
  | 4 => ⟨S147456x1, .f32⟩
  | 5 => ⟨S147456, .f32⟩
  | 6 => ⟨S147456, .f32⟩
  | 7 => ⟨S147456, .f32⟩
  | 8 => ⟨S147456x1, .f32⟩
  | 9 => ⟨S147456, .f32⟩
  | 10 => ⟨S147456, .f32⟩
  | 11 => ⟨S147456, .f32⟩
  | 12 => ⟨S147456x1, .f32⟩
  | 13 => ⟨S147456, .f32⟩
  | 14 => ⟨S147456, .f32⟩
  | 15 => ⟨S147456, .f32⟩
  | 16 => ⟨S147456x1, .f32⟩
  | 17 => ⟨S147456x1, .f32⟩
  | 18 => ⟨S147456x1, .f32⟩
  | 19 => ⟨S147456x1, .f32⟩
  | 20 => ⟨S147456x4, .f32⟩
  | 21 => ⟨S147456x1, .f32⟩
  | 22 => ⟨S147456, .f32⟩
  | 23 => ⟨S147456x1, .f32⟩
  | 24 => ⟨S147456x5, .f32⟩
  | _ => ⟨S1x1024x128x128, .f32⟩

abbrev hbmTy (i : Nat) : BufTy := match i / 128 with
  | 0 => hbmTy0_0 i
  | 1 => hbmTy0_1 i
  | _ => ⟨S1x1024x128x128, .f32⟩

abbrev bufTy : (tb : Table) → Fin (tcTables nBuf tb) → BufTy
  | .hbm, ⟨i, _⟩ => hbmTy i
  | _, _ => ⟨S1x1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_call1_cst : Ref sig .tc := ⟨.hbm, 58, rfl⟩
abbrev main_call1_v0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_c_2 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_3 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_cst_4 : Ref sig .tc := ⟨.hbm, 103, rfl⟩
abbrev main_v87 : Ref sig .tc := ⟨.hbm, 104, rfl⟩
abbrev main_cst_5 : Ref sig .tc := ⟨.hbm, 105, rfl⟩
abbrev main_v88 : Ref sig .tc := ⟨.hbm, 106, rfl⟩
abbrev main_cst_6 : Ref sig .tc := ⟨.hbm, 107, rfl⟩
abbrev main_v89 : Ref sig .tc := ⟨.hbm, 108, rfl⟩
abbrev main_v90 : Ref sig .tc := ⟨.hbm, 109, rfl⟩
abbrev main_cst_7 : Ref sig .tc := ⟨.hbm, 110, rfl⟩
abbrev main_v91 : Ref sig .tc := ⟨.hbm, 111, rfl⟩
abbrev main_cst_8 : Ref sig .tc := ⟨.hbm, 112, rfl⟩
abbrev main_v92 : Ref sig .tc := ⟨.hbm, 113, rfl⟩
abbrev main_cst_9 : Ref sig .tc := ⟨.hbm, 114, rfl⟩
abbrev main_v93 : Ref sig .tc := ⟨.hbm, 115, rfl⟩
abbrev main_v94 : Ref sig .tc := ⟨.hbm, 116, rfl⟩
abbrev main_cst_10 : Ref sig .tc := ⟨.hbm, 117, rfl⟩
abbrev main_v95 : Ref sig .tc := ⟨.hbm, 118, rfl⟩
abbrev main_cst_11 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩

abbrev nD : Nat := 1
abbrev τ : Topo := Topo.v7x

variable {F : FTy → Type} [FloatOps F]
-- ==== Proof.RefRun.lean ====
/- The reference program's run: its host operations in four stretches, and what every buffer holds after them. -/
module
public import proofs.«01_k».proof.Proof.Gen.ReferenceIdeal
public import Idealize.ShloMosaic.Lib.StableHlo.Run
@[expose] public section
noncomputable section
namespace Cert.ReferenceIdeal.Host
open Cert.ReferenceIdeal Cert.ReferenceIdeal.Gen Idealize.ShloMosaic Idealize.ShloMosaic.TcCoe Idealize.SL.Sem Idealize.ShloMosaic.StableHlo
variable {F : FTy → Type} [FloatOps F]

/-- Three blocks of base widths put side by side. -/
def widths : (main_v87 : Ref sig .tc).ty.Contents (Elt F) → (main_v88 : Ref sig .tc).ty.Contents (Elt F) → (main_v89 : Ref sig .tc).ty.Contents (Elt F) → (main_v90 : Ref sig .tc).ty.Contents (Elt F) :=
  (fun u0 u1 u2 => (concatenate S16384x3x3 1 [⟨S16384x1x3, (u0 : (⟨S16384x1x3, .f32⟩ : BufTy).Contents (Elt F))⟩, ⟨S16384x1x3, (u1 : (⟨S16384x1x3, .f32⟩ : BufTy).Contents (Elt F))⟩, ⟨S16384x1x3, (u2 : (⟨S16384x1x3, .f32⟩ : BufTy).Contents (Elt F))⟩] concatenates_S16384x1x3_S16384x1x3_S16384x1x3_S16384x3x3_d1 : (⟨S16384x3x3, .f32⟩ : BufTy).Contents (Elt F)))

/-- Three blocks of base heights put side by side. -/
def heights : (main_v91 : Ref sig .tc).ty.Contents (Elt F) → (main_v92 : Ref sig .tc).ty.Contents (Elt F) → (main_v93 : Ref sig .tc).ty.Contents (Elt F) → (main_v94 : Ref sig .tc).ty.Contents (Elt F) :=
  (fun u0 u1 u2 => (concatenate S16384x3x3 1 [⟨S16384x1x3, (u0 : (⟨S16384x1x3, .f32⟩ : BufTy).Contents (Elt F))⟩, ⟨S16384x1x3, (u1 : (⟨S16384x1x3, .f32⟩ : BufTy).Contents (Elt F))⟩, ⟨S16384x1x3, (u2 : (⟨S16384x1x3, .f32⟩ : BufTy).Contents (Elt F))⟩] concatenates_S16384x1x3_S16384x1x3_S16384x1x3_S16384x3x3_d1 : (⟨S16384x3x3, .f32⟩ : BufTy).Contents (Elt F)))

/-- Three columns of scales put side by side. -/
def sizes : (main_v95 : Ref sig .tc).ty.Contents (Elt F) → (main_v96 : Ref sig .tc).ty.Contents (Elt F) → (main_v97 : Ref sig .tc).ty.Contents (Elt F) → (main_v98 : Ref sig .tc).ty.Contents (Elt F) :=
  (fun u0 u1 u2 => (concatenate S16384x3x3 2 [⟨S16384x3x1, (u0 : (⟨S16384x3x1, .f32⟩ : BufTy).Contents (Elt F))⟩, ⟨S16384x3x1, (u1 : (⟨S16384x3x1, .f32⟩ : BufTy).Contents (Elt F))⟩, ⟨S16384x3x1, (u2 : (⟨S16384x3x1, .f32⟩ : BufTy).Contents (Elt F))⟩] concatenates_S16384x3x1_S16384x3x1_S16384x3x1_S16384x3x3_d2 : (⟨S16384x3x3, .f32⟩ : BufTy).Contents (Elt F)))

/-- The four columns of a box put side by side. -/
def boxes : (main_v119 : Ref sig .tc).ty.Contents (Elt F) → (main_v120 : Ref sig .tc).ty.Contents (Elt F) → (main_v121 : Ref sig .tc).ty.Contents (Elt F) → (main_v122 : Ref sig .tc).ty.Contents (Elt F) → (main_v123 : Ref sig .tc).ty.Contents (Elt F) :=
  (fun u0 u1 u2 u3 => (concatenate S147456x4 1 [⟨S147456x1, (u0 : (⟨S147456x1, .f32⟩ : BufTy).Contents (Elt F))⟩, ⟨S147456x1, (u1 : (⟨S147456x1, .f32⟩ : BufTy).Contents (Elt F))⟩, ⟨S147456x1, (u2 : (⟨S147456x1, .f32⟩ : BufTy).Contents (Elt F))⟩, ⟨S147456x1, (u3 : (⟨S147456x1, .f32⟩ : BufTy).Contents (Elt F))⟩] concatenates_S147456x1_S147456x1_S147456x1_S147456x1_S147456x4_d1 : (⟨S147456x4, .f32⟩ : BufTy).Contents (Elt F)))

/-- The boxes with the score column put beside them. -/
def rows : (⟨S147456x4, .f32⟩ : BufTy).Contents (Elt F) → (⟨S147456x1, .f32⟩ : BufTy).Contents (Elt F) → (⟨S147456x5, .f32⟩ : BufTy).Contents (Elt F) :=
  (fun a b => concatenate S147456x5 1 [⟨S147456x4, a⟩, ⟨S147456x1, b⟩] concatenates_S147456x4_S147456x1_S147456x5_d1)

/-- The input image with a border of zeros. -/
abbrev opsP : List (HloOp τ sig (Elt F)) :=
  [ reshape main_arg0 main_v0 (rfl : (.f32 : EltTy) = .f32) shapeCasts_S1x1024x128x128_S1024x128x128,
    nullary main_c (constantI S_ 32 0#32),
    unary main_c main_call0_v0 ((sitofp .f32) : (⟨S_, .i32⟩ : BufTy).Contents (Elt F) → (⟨S_, .f32⟩ : BufTy).Contents (Elt F)),
    binary main_v0 main_call0_v0 main_v1 ((fun x v => pad S1024x130x130 ![0, 1, 1] ![0, 1, 1] ![0, 0, 0] x v pads_S1024x128x128_S1024x130x130_000_110_110 h_S_) : (⟨S1024x128x128, .f32⟩ : BufTy).Contents (Elt F) → (⟨S_, .f32⟩ : BufTy).Contents (Elt F) → (⟨S1024x130x130, .f32⟩ : BufTy).Contents (Elt F)) ]

/-- The 3×3 convolution and its rectification: the operations up to the feature map. -/
abbrev opsA : List (HloOp τ sig (Elt F)) :=
  [ unary main_arg1 main_v2 ((extractStridedSlice S512x1024x1x1 ![0, 0, 0, 0] · slices_S512x1024x3x3_S512x1024x1x1_0_0_0_0) : (⟨S512x1024x3x3, .f32⟩ : BufTy).Contents (Elt F) → (⟨S512x1024x1x1, .f32⟩ : BufTy).Contents (Elt F)),
    reshape main_v2 main_v3 (rfl : (.f32 : EltTy) = .f32) shapeCasts_S512x1024x1x1_S512x1024,
    unary main_v1 main_v4 ((extractStridedSlice S1024x128x128 ![0, 0, 0] · slices_S1024x130x130_S1024x128x128_0_0_0) : (⟨S1024x130x130, .f32⟩ : BufTy).Contents (Elt F) → (⟨S1024x128x128, .f32⟩ : BufTy).Contents (Elt F)),
    binary main_v3 main_v4 main_v5 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    unary main_arg1 main_v6 ((extractStridedSlice S512x1024x1x1 ![0, 0, 0, 1] · slices_S512x1024x3x3_S512x1024x1x1_0_0_0_1) : (⟨S512x1024x3x3, .f32⟩ : BufTy).Contents (Elt F) → (⟨S512x1024x1x1, .f32⟩ : BufTy).Contents (Elt F)),
    reshape main_v6 main_v7 (rfl : (.f32 : EltTy) = .f32) shapeCasts_S512x1024x1x1_S512x1024,
    unary main_v1 main_v8 ((extractStridedSlice S1024x128x128 ![0, 0, 1] · slices_S1024x130x130_S1024x128x128_0_0_1) : (⟨S1024x130x130, .f32⟩ : BufTy).Contents (Elt F) → (⟨S1024x128x128, .f32⟩ : BufTy).Contents (Elt F)),
    binary main_v7 main_v8 main_v9 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v5 main_v9 main_v10 (addf : (⟨S512x128x128, .f32⟩ : BufTy).Contents (Elt F) → (⟨S512x128x128, .f32⟩ : BufTy).Contents (Elt F) → (⟨S512x128x128, .f32⟩ : BufTy).Contents (Elt F)),
    unary main_arg1 main_v11 ((extractStridedSlice S512x1024x1x1 ![0, 0, 0, 2] · slices_S512x1024x3x3_S512x1024x1x1_0_0_0_2) : (⟨S512x1024x3x3, .f32⟩ : BufTy).Contents (Elt F) → (⟨S512x1024x1x1, .f32⟩ : BufTy).Contents (Elt F)),
    reshape main_v11 main_v12 (rfl : (.f32 : EltTy) = .f32) shapeCasts_S512x1024x1x1_S512x1024,
    unary main_v1 main_v13 ((extractStridedSlice S1024x128x128 ![0, 0, 2] · slices_S1024x130x130_S1024x128x128_0_0_2) : (⟨S1024x130x130, .f32⟩ : BufTy).Contents (Elt F) → (⟨S1024x128x128, .f32⟩ : BufTy).Contents (Elt F)),
    binary main_v12 main_v13 main_v14 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v10 main_v14 main_v15 (addf : (⟨S512x128x128, .f32⟩ : BufTy).Contents (Elt F) → (⟨S512x128x128, .f32⟩ : BufTy).Contents (Elt F) → (⟨S512x128x128, .f32⟩ : BufTy).Contents (Elt F)),
    unary main_arg1 main_v16 ((extractStridedSlice S512x1024x1x1 ![0, 0, 1, 0] · slices_S512x1024x3x3_S512x1024x1x1_0_0_1_0) : (⟨S512x1024x3x3, .f32⟩ : BufTy).Contents (Elt F) → (⟨S512x1024x1x1, .f32⟩ : BufTy).Contents (Elt F)),
    reshape main_v16 main_v17 (rfl : (.f32 : EltTy) = .f32) shapeCasts_S512x1024x1x1_S512x1024,
    unary main_v1 main_v18 ((extractStridedSlice S1024x128x128 ![0, 1, 0] · slices_S1024x130x130_S1024x128x128_0_1_0) : (⟨S1024x130x130, .f32⟩ : BufTy).Contents (Elt F) → (⟨S1024x128x128, .f32⟩ : BufTy).Contents (Elt F)),
    binary main_v17 main_v18 main_v19 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v15 main_v19 main_v20 (addf : (⟨S512x128x128, .f32⟩ : BufTy).Contents (Elt F) → (⟨S512x128x128, .f32⟩ : BufTy).Contents (Elt F) → (⟨S512x128x128, .f32⟩ : BufTy).Contents (Elt F)),
    unary main_arg1 main_v21 ((extractStridedSlice S512x1024x1x1 ![0, 0, 1, 1] · slices_S512x1024x3x3_S512x1024x1x1_0_0_1_1) : (⟨S512x1024x3x3, .f32⟩ : BufTy).Contents (Elt F) → (⟨S512x1024x1x1, .f32⟩ : BufTy).Contents (Elt F)),
    reshape main_v21 main_v22 (rfl : (.f32 : EltTy) = .f32) shapeCasts_S512x1024x1x1_S512x1024,
    unary main_v1 main_v23 ((extractStridedSlice S1024x128x128 ![0, 1, 1] · slices_S1024x130x130_S1024x128x128_0_1_1) : (⟨S1024x130x130, .f32⟩ : BufTy).Contents (Elt F) → (⟨S1024x128x128, .f32⟩ : BufTy).Contents (Elt F)),
    binary main_v22 main_v23 main_v24 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v20 main_v24 main_v25 (addf : (⟨S512x128x128, .f32⟩ : BufTy).Contents (Elt F) → (⟨S512x128x128, .f32⟩ : BufTy).Contents (Elt F) → (⟨S512x128x128, .f32⟩ : BufTy).Contents (Elt F)),
    unary main_arg1 main_v26 ((extractStridedSlice S512x1024x1x1 ![0, 0, 1, 2] · slices_S512x1024x3x3_S512x1024x1x1_0_0_1_2) : (⟨S512x1024x3x3, .f32⟩ : BufTy).Contents (Elt F) → (⟨S512x1024x1x1, .f32⟩ : BufTy).Contents (Elt F)),
    reshape main_v26 main_v27 (rfl : (.f32 : EltTy) = .f32) shapeCasts_S512x1024x1x1_S512x1024,
    unary main_v1 main_v28 ((extractStridedSlice S1024x128x128 ![0, 1, 2] · slices_S1024x130x130_S1024x128x128_0_1_2) : (⟨S1024x130x130, .f32⟩ : BufTy).Contents (Elt F) → (⟨S1024x128x128, .f32⟩ : BufTy).Contents (Elt F)),
    binary main_v27 main_v28 main_v29 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v25 main_v29 main_v30 (addf : (⟨S512x128x128, .f32⟩ : BufTy).Contents (Elt F) → (⟨S512x128x128, .f32⟩ : BufTy).Contents (Elt F) → (⟨S512x128x128, .f32⟩ : BufTy).Contents (Elt F)),
    unary main_arg1 main_v31 ((extractStridedSlice S512x1024x1x1 ![0, 0, 2, 0] · slices_S512x1024x3x3_S512x1024x1x1_0_0_2_0) : (⟨S512x1024x3x3, .f32⟩ : BufTy).Contents (Elt F) → (⟨S512x1024x1x1, .f32⟩ : BufTy).Contents (Elt F)),
    reshape main_v31 main_v32 (rfl : (.f32 : EltTy) = .f32) shapeCasts_S512x1024x1x1_S512x1024,
    unary main_v1 main_v33 ((extractStridedSlice S1024x128x128 ![0, 2, 0] · slices_S1024x130x130_S1024x128x128_0_2_0) : (⟨S1024x130x130, .f32⟩ : BufTy).Contents (Elt F) → (⟨S1024x128x128, .f32⟩ : BufTy).Contents (Elt F)),
    binary main_v32 main_v33 main_v34 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v30 main_v34 main_v35 (addf : (⟨S512x128x128, .f32⟩ : BufTy).Contents (Elt F) → (⟨S512x128x128, .f32⟩ : BufTy).Contents (Elt F) → (⟨S512x128x128, .f32⟩ : BufTy).Contents (Elt F)),
    unary main_arg1 main_v36 ((extractStridedSlice S512x1024x1x1 ![0, 0, 2, 1] · slices_S512x1024x3x3_S512x1024x1x1_0_0_2_1) : (⟨S512x1024x3x3, .f32⟩ : BufTy).Contents (Elt F) → (⟨S512x1024x1x1, .f32⟩ : BufTy).Contents (Elt F)),
    reshape main_v36 main_v37 (rfl : (.f32 : EltTy) = .f32) shapeCasts_S512x1024x1x1_S512x1024,
    unary main_v1 main_v38 ((extractStridedSlice S1024x128x128 ![0, 2, 1] · slices_S1024x130x130_S1024x128x128_0_2_1) : (⟨S1024x130x130, .f32⟩ : BufTy).Contents (Elt F) → (⟨S1024x128x128, .f32⟩ : BufTy).Contents (Elt F)),
    binary main_v37 main_v38 main_v39 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v35 main_v39 main_v40 (addf : (⟨S512x128x128, .f32⟩ : BufTy).Contents (Elt F) → (⟨S512x128x128, .f32⟩ : BufTy).Contents (Elt F) → (⟨S512x128x128, .f32⟩ : BufTy).Contents (Elt F)),
    unary main_arg1 main_v41 ((extractStridedSlice S512x1024x1x1 ![0, 0, 2, 2] · slices_S512x1024x3x3_S512x1024x1x1_0_0_2_2) : (⟨S512x1024x3x3, .f32⟩ : BufTy).Contents (Elt F) → (⟨S512x1024x1x1, .f32⟩ : BufTy).Contents (Elt F)),
    reshape main_v41 main_v42 (rfl : (.f32 : EltTy) = .f32) shapeCasts_S512x1024x1x1_S512x1024,
    unary main_v1 main_v43 ((extractStridedSlice S1024x128x128 ![0, 2, 2] · slices_S1024x130x130_S1024x128x128_0_2_2) : (⟨S1024x130x130, .f32⟩ : BufTy).Contents (Elt F) → (⟨S1024x128x128, .f32⟩ : BufTy).Contents (Elt F)),
    binary main_v42 main_v43 main_v44 ((fun l r => Host.dotGeneral dot_S512x1024_S1024x128x128_S512x128x128_1_0_0_12_n_n none l r) : (⟨S512x1024, .f32⟩ : BufTy).Contents (Elt F) → (⟨S1024x128x128, .f32⟩ : BufTy).Contents (Elt F) → (⟨S512x128x128, .f32⟩ : BufTy).Contents (Elt F)),
    binary main_v40 main_v44 main_v45 (addf : (⟨S512x128x128, .f32⟩ : BufTy).Contents (Elt F) → (⟨S512x128x128, .f32⟩ : BufTy).Contents (Elt F) → (⟨S512x128x128, .f32⟩ : BufTy).Contents (Elt F)),
    unary main_arg2 main_v46 (broadcastInDim S512x1x1 ![0] bcast_S512_S512x1x1_0 : (⟨S512, .f32⟩ : BufTy).Contents (Elt F) → (⟨S512x1x1, .f32⟩ : BufTy).Contents (Elt F)),
    unary main_v46 main_v47 (broadcastInDim S512x128x128 ![0, 1, 2] bcast_S512x1x1_S512x128x128_0_1_2 : (⟨S512x1x1, .f32⟩ : BufTy).Contents (Elt F) → (⟨S512x128x128, .f32⟩ : BufTy).Contents (Elt F)),
    binary main_v45 main_v47 main_v48 (addf : (⟨S512x128x128, .f32⟩ : BufTy).Contents (Elt F) → (⟨S512x128x128, .f32⟩ : BufTy).Contents (Elt F) → (⟨S512x128x128, .f32⟩ : BufTy).Contents (Elt F)),
    nullary main_call1_cst ((constant S_ .f32 0x00000000#32) : (⟨S_, .f32⟩ : BufTy).Contents (Elt F)),
    unary main_call1_cst main_call1_v0 ((broadcastInDim S512x128x128 ![] bcast_S_S512x128x128) : (⟨S_, .f32⟩ : BufTy).Contents (Elt F) → (⟨S512x128x128, .f32⟩ : BufTy).Contents (Elt F)),
    binary main_v48 main_call1_v0 main_v49 (maximumf : (⟨S512x128x128, .f32⟩ : BufTy).Contents (Elt F) → (⟨S512x128x128, .f32⟩ : BufTy).Contents (Elt F) → (⟨S512x128x128, .f32⟩ : BufTy).Contents (Elt F)) ]

/-- The two 1×1 convolutions, the two-way softmax of the scores, and their rearrangement into one row per anchor. -/
abbrev opsB : List (HloOp τ sig (Elt F)) :=
  [ reshape main_arg3 main_v50 (rfl : (.f32 : EltTy) = .f32) shapeCasts_S18x512x1x1_S18x512,
    binary main_v50 main_v49 main_v51 ((fun l r => Host.dotGeneral dot_S18x512_S512x128x128_S18x128x128_1_0_0_12_n_n none l r) : (⟨S18x512, .f32⟩ : BufTy).Contents (Elt F) → (⟨S512x128x128, .f32⟩ : BufTy).Contents (Elt F) → (⟨S18x128x128, .f32⟩ : BufTy).Contents (Elt F)),
    unary main_arg4 main_v52 (broadcastInDim S18x1x1 ![0] bcast_S18_S18x1x1_0 : (⟨S18, .f32⟩ : BufTy).Contents (Elt F) → (⟨S18x1x1, .f32⟩ : BufTy).Contents (Elt F)),
    unary main_v52 main_v53 (broadcastInDim S18x128x128 ![0, 1, 2] bcast_S18x1x1_S18x128x128_0_1_2 : (⟨S18x1x1, .f32⟩ : BufTy).Contents (Elt F) → (⟨S18x128x128, .f32⟩ : BufTy).Contents (Elt F)),
    binary main_v51 main_v53 main_v54 (addf : (⟨S18x128x128, .f32⟩ : BufTy).Contents (Elt F) → (⟨S18x128x128, .f32⟩ : BufTy).Contents (Elt F) → (⟨S18x128x128, .f32⟩ : BufTy).Contents (Elt F)),
    reshape main_v54 main_v55 (rfl : (.f32 : EltTy) = .f32) shapeCasts_S18x128x128_S2x1152x128,
    nullary main_cst (constant S_ .f32 0xFF800000#32),
    binary main_v55 main_cst main_v56 ((fun x v => Host.reduce FloatOps.maximumf x v reducesTo_S2x1152x128_S1152x128_d0 h_S_) : (⟨S2x1152x128, .f32⟩ : BufTy).Contents (Elt F) → (⟨S_, .f32⟩ : BufTy).Contents (Elt F) → (⟨S1152x128, .f32⟩ : BufTy).Contents (Elt F)),
    nullary main_cst_0 (constant S_ .f32 0xFF800000#32),
    unary main_cst_0 main_v57 (broadcastInDim S1152x128 ![] bcast_S_S1152x128 : (⟨S_, .f32⟩ : BufTy).Contents (Elt F) → (⟨S1152x128, .f32⟩ : BufTy).Contents (Elt F)),
    binary main_v57 main_v56 main_v58 (maximumf : (⟨S1152x128, .f32⟩ : BufTy).Contents (Elt F) → (⟨S1152x128, .f32⟩ : BufTy).Contents (Elt F) → (⟨S1152x128, .f32⟩ : BufTy).Contents (Elt F)),
    unary main_v58 main_v59 (broadcastInDim S1x1152x128 ![1, 2] bcast_S1152x128_S1x1152x128_1_2 : (⟨S1152x128, .f32⟩ : BufTy).Contents (Elt F) → (⟨S1x1152x128, .f32⟩ : BufTy).Contents (Elt F)),
    unary main_v59 main_v60 (broadcastInDim S2x1152x128 ![0, 1, 2] bcast_S1x1152x128_S2x1152x128_0_1_2 : (⟨S1x1152x128, .f32⟩ : BufTy).Contents (Elt F) → (⟨S2x1152x128, .f32⟩ : BufTy).Contents (Elt F)),
    binary main_v55 main_v60 main_v61 (subf : (⟨S2x1152x128, .f32⟩ : BufTy).Contents (Elt F) → (⟨S2x1152x128, .f32⟩ : BufTy).Contents (Elt F) → (⟨S2x1152x128, .f32⟩ : BufTy).Contents (Elt F)),
    unary main_v61 main_v62 (Host.exp : (⟨S2x1152x128, .f32⟩ : BufTy).Contents (Elt F) → (⟨S2x1152x128, .f32⟩ : BufTy).Contents (Elt F)),
    nullary main_cst_1 (constant S_ .f32 0x00000000#32),
    binary main_v62 main_cst_1 main_v63 ((fun x v => Host.reduceAdd x v reducesTo_S2x1152x128_S1152x128_d0 h_S_) : (⟨S2x1152x128, .f32⟩ : BufTy).Contents (Elt F) → (⟨S_, .f32⟩ : BufTy).Contents (Elt F) → (⟨S1152x128, .f32⟩ : BufTy).Contents (Elt F)),
    unary main_v63 main_v64 (broadcastInDim S1x1152x128 ![1, 2] bcast_S1152x128_S1x1152x128_1_2 : (⟨S1152x128, .f32⟩ : BufTy).Contents (Elt F) → (⟨S1x1152x128, .f32⟩ : BufTy).Contents (Elt F)),
    unary main_v64 main_v65 (broadcastInDim S2x1152x128 ![0, 1, 2] bcast_S1x1152x128_S2x1152x128_0_1_2 : (⟨S1x1152x128, .f32⟩ : BufTy).Contents (Elt F) → (⟨S2x1152x128, .f32⟩ : BufTy).Contents (Elt F)),
    binary main_v62 main_v65 main_v66 (Host.divf : (⟨S2x1152x128, .f32⟩ : BufTy).Contents (Elt F) → (⟨S2x1152x128, .f32⟩ : BufTy).Contents (Elt F) → (⟨S2x1152x128, .f32⟩ : BufTy).Contents (Elt F)),
    reshape main_v66 main_v67 (rfl : (.f32 : EltTy) = .f32) shapeCasts_S2x1152x128_S18x128x128,
    reshape main_arg5 main_v68 (rfl : (.f32 : EltTy) = .f32) shapeCasts_S36x512x1x1_S36x512,
    binary main_v68 main_v49 main_v69 ((fun l r => Host.dotGeneral dot_S36x512_S512x128x128_S36x128x128_1_0_0_12_n_n none l r) : (⟨S36x512, .f32⟩ : BufTy).Contents (Elt F) → (⟨S512x128x128, .f32⟩ : BufTy).Contents (Elt F) → (⟨S36x128x128, .f32⟩ : BufTy).Contents (Elt F)),
    unary main_arg6 main_v70 (broadcastInDim S36x1x1 ![0] bcast_S36_S36x1x1_0 : (⟨S36, .f32⟩ : BufTy).Contents (Elt F) → (⟨S36x1x1, .f32⟩ : BufTy).Contents (Elt F)),
    unary main_v70 main_v71 (broadcastInDim S36x128x128 ![0, 1, 2] bcast_S36x1x1_S36x128x128_0_1_2 : (⟨S36x1x1, .f32⟩ : BufTy).Contents (Elt F) → (⟨S36x128x128, .f32⟩ : BufTy).Contents (Elt F)),
    binary main_v69 main_v71 main_v72 (addf : (⟨S36x128x128, .f32⟩ : BufTy).Contents (Elt F) → (⟨S36x128x128, .f32⟩ : BufTy).Contents (Elt F) → (⟨S36x128x128, .f32⟩ : BufTy).Contents (Elt F)),
    unary main_v67 main_v73 ((transpose S128x128x18 [1, 2, 0] · transposes_S18x128x128_S128x128x18_1_2_0) : (⟨S18x128x128, .f32⟩ : BufTy).Contents (Elt F) → (⟨S128x128x18, .f32⟩ : BufTy).Contents (Elt F)),
    reshape main_v73 main_v74 (rfl : (.f32 : EltTy) = .f32) shapeCasts_S128x128x18_S147456x2,
    unary main_v72 main_v75 ((transpose S128x128x36 [1, 2, 0] · transposes_S36x128x128_S128x128x36_1_2_0) : (⟨S36x128x128, .f32⟩ : BufTy).Contents (Elt F) → (⟨S128x128x36, .f32⟩ : BufTy).Contents (Elt F)),
    reshape main_v75 main_v76 (rfl : (.f32 : EltTy) = .f32) shapeCasts_S128x128x36_S147456x4 ]

/-- The anchors: two coordinates of the pixel, a width and a height, one of each per anchor. -/
abbrev opsC : List (HloOp τ sig (Elt F)) :=
  [ nullary main_v77 (iotaInDim S128x128x9 32 0),
    nullary main_c_2 (constantI S_ 32 16#32),
    unary main_c_2 main_v78 (broadcastInDim S128x128x9 ![] bcast_S_S128x128x9 : (⟨S_, .i32⟩ : BufTy).Contents (Elt F) → (⟨S128x128x9, .i32⟩ : BufTy).Contents (Elt F)),
    binary main_v77 main_v78 main_v79 (muli : (⟨S128x128x9, .i32⟩ : BufTy).Contents (Elt F) → (⟨S128x128x9, .i32⟩ : BufTy).Contents (Elt F) → (⟨S128x128x9, .i32⟩ : BufTy).Contents (Elt F)),
    unary main_v79 main_v80 (sitofp .f32 : (⟨S128x128x9, .i32⟩ : BufTy).Contents (Elt F) → (⟨S128x128x9, .f32⟩ : BufTy).Contents (Elt F)),
    reshape main_v80 main_v81 (rfl : (.f32 : EltTy) = .f32) shapeCasts_S128x128x9_S147456,
    nullary main_v82 (iotaInDim S128x128x9 32 1),
    nullary main_c_3 (constantI S_ 32 16#32),
    unary main_c_3 main_v83 (broadcastInDim S128x128x9 ![] bcast_S_S128x128x9 : (⟨S_, .i32⟩ : BufTy).Contents (Elt F) → (⟨S128x128x9, .i32⟩ : BufTy).Contents (Elt F)),
    binary main_v82 main_v83 main_v84 (muli : (⟨S128x128x9, .i32⟩ : BufTy).Contents (Elt F) → (⟨S128x128x9, .i32⟩ : BufTy).Contents (Elt F) → (⟨S128x128x9, .i32⟩ : BufTy).Contents (Elt F)),
    unary main_v84 main_v85 (sitofp .f32 : (⟨S128x128x9, .i32⟩ : BufTy).Contents (Elt F) → (⟨S128x128x9, .f32⟩ : BufTy).Contents (Elt F)),
    reshape main_v85 main_v86 (rfl : (.f32 : EltTy) = .f32) shapeCasts_S128x128x9_S147456,
    nullary main_cst_4 (constant S_ .f32 0x41B80000#32),
    unary main_cst_4 main_v87 (broadcastInDim S16384x1x3 ![] bcast_S_S16384x1x3 : (⟨S_, .f32⟩ : BufTy).Contents (Elt F) → (⟨S16384x1x3, .f32⟩ : BufTy).Contents (Elt F)),
    nullary main_cst_5 (constant S_ .f32 0x41800000#32),
    unary main_cst_5 main_v88 (broadcastInDim S16384x1x3 ![] bcast_S_S16384x1x3 : (⟨S_, .f32⟩ : BufTy).Contents (Elt F) → (⟨S16384x1x3, .f32⟩ : BufTy).Contents (Elt F)),
    nullary main_cst_6 (constant S_ .f32 0x41300000#32),
    unary main_cst_6 main_v89 (broadcastInDim S16384x1x3 ![] bcast_S_S16384x1x3 : (⟨S_, .f32⟩ : BufTy).Contents (Elt F) → (⟨S16384x1x3, .f32⟩ : BufTy).Contents (Elt F)),
    nary ![main_v87, main_v88, main_v89] main_v90 (fun u => widths (F := F) (u 0) (u 1) (u 2)),
    nullary main_cst_7 (constant S_ .f32 0x41400000#32),
    unary main_cst_7 main_v91 (broadcastInDim S16384x1x3 ![] bcast_S_S16384x1x3 : (⟨S_, .f32⟩ : BufTy).Contents (Elt F) → (⟨S16384x1x3, .f32⟩ : BufTy).Contents (Elt F)),
    nullary main_cst_8 (constant S_ .f32 0x41800000#32),
    unary main_cst_8 main_v92 (broadcastInDim S16384x1x3 ![] bcast_S_S16384x1x3 : (⟨S_, .f32⟩ : BufTy).Contents (Elt F) → (⟨S16384x1x3, .f32⟩ : BufTy).Contents (Elt F)),
    nullary main_cst_9 (constant S_ .f32 0x41B00000#32),
    unary main_cst_9 main_v93 (broadcastInDim S16384x1x3 ![] bcast_S_S16384x1x3 : (⟨S_, .f32⟩ : BufTy).Contents (Elt F) → (⟨S16384x1x3, .f32⟩ : BufTy).Contents (Elt F)),
    nary ![main_v91, main_v92, main_v93] main_v94 (fun u => heights (F := F) (u 0) (u 1) (u 2)),
    nullary main_cst_10 (constant S_ .f32 0x41000000#32),
    unary main_cst_10 main_v95 (broadcastInDim S16384x3x1 ![] bcast_S_S16384x3x1 : (⟨S_, .f32⟩ : BufTy).Contents (Elt F) → (⟨S16384x3x1, .f32⟩ : BufTy).Contents (Elt F)),
    nullary main_cst_11 (constant S_ .f32 0x41800000#32),
    unary main_cst_11 main_v96 (broadcastInDim S16384x3x1 ![] bcast_S_S16384x3x1 : (⟨S_, .f32⟩ : BufTy).Contents (Elt F) → (⟨S16384x3x1, .f32⟩ : BufTy).Contents (Elt F)),
    nullary main_cst_12 (constant S_ .f32 0x42000000#32),
    unary main_cst_12 main_v97 (broadcastInDim S16384x3x1 ![] bcast_S_S16384x3x1 : (⟨S_, .f32⟩ : BufTy).Contents (Elt F) → (⟨S16384x3x1, .f32⟩ : BufTy).Contents (Elt F)),
    nary ![main_v95, main_v96, main_v97] main_v98 (fun u => sizes (F := F) (u 0) (u 1) (u 2)),
    binary main_v90 main_v98 main_v99 (mulf : (⟨S16384x3x3, .f32⟩ : BufTy).Contents (Elt F) → (⟨S16384x3x3, .f32⟩ : BufTy).Contents (Elt F) → (⟨S16384x3x3, .f32⟩ : BufTy).Contents (Elt F)),
    reshape main_v99 main_v100 (rfl : (.f32 : EltTy) = .f32) shapeCasts_S16384x3x3_S147456,
    binary main_v94 main_v98 main_v101 (mulf : (⟨S16384x3x3, .f32⟩ : BufTy).Contents (Elt F) → (⟨S16384x3x3, .f32⟩ : BufTy).Contents (Elt F) → (⟨S16384x3x3, .f32⟩ : BufTy).Contents (Elt F)),
    reshape main_v101 main_v102 (rfl : (.f32 : EltTy) = .f32) shapeCasts_S16384x3x3_S147456 ]

/-- The decoded boxes, and the score beside them. -/
abbrev opsD : List (HloOp τ sig (Elt F)) :=
  [ unary main_v76 main_v103 ((extractStridedSlice S147456x1 ![0, 0] · slices_S147456x4_S147456x1_0_0) : (⟨S147456x4, .f32⟩ : BufTy).Contents (Elt F) → (⟨S147456x1, .f32⟩ : BufTy).Contents (Elt F)),
    reshape main_v103 main_v104 (rfl : (.f32 : EltTy) = .f32) shapeCasts_S147456x1_S147456,
    binary main_v100 main_v104 main_v105 (mulf : (⟨S147456, .f32⟩ : BufTy).Contents (Elt F) → (⟨S147456, .f32⟩ : BufTy).Contents (Elt F) → (⟨S147456, .f32⟩ : BufTy).Contents (Elt F)),
    binary main_v81 main_v105 main_v106 (addf : (⟨S147456, .f32⟩ : BufTy).Contents (Elt F) → (⟨S147456, .f32⟩ : BufTy).Contents (Elt F) → (⟨S147456, .f32⟩ : BufTy).Contents (Elt F)),
    unary main_v76 main_v107 ((extractStridedSlice S147456x1 ![0, 1] · slices_S147456x4_S147456x1_0_1) : (⟨S147456x4, .f32⟩ : BufTy).Contents (Elt F) → (⟨S147456x1, .f32⟩ : BufTy).Contents (Elt F)),
    reshape main_v107 main_v108 (rfl : (.f32 : EltTy) = .f32) shapeCasts_S147456x1_S147456,
    binary main_v102 main_v108 main_v109 (mulf : (⟨S147456, .f32⟩ : BufTy).Contents (Elt F) → (⟨S147456, .f32⟩ : BufTy).Contents (Elt F) → (⟨S147456, .f32⟩ : BufTy).Contents (Elt F)),
    binary main_v86 main_v109 main_v110 (addf : (⟨S147456, .f32⟩ : BufTy).Contents (Elt F) → (⟨S147456, .f32⟩ : BufTy).Contents (Elt F) → (⟨S147456, .f32⟩ : BufTy).Contents (Elt F)),
    unary main_v76 main_v111 ((extractStridedSlice S147456x1 ![0, 2] · slices_S147456x4_S147456x1_0_2) : (⟨S147456x4, .f32⟩ : BufTy).Contents (Elt F) → (⟨S147456x1, .f32⟩ : BufTy).Contents (Elt F)),
    reshape main_v111 main_v112 (rfl : (.f32 : EltTy) = .f32) shapeCasts_S147456x1_S147456,
    unary main_v112 main_v113 (Host.exp : (⟨S147456, .f32⟩ : BufTy).Contents (Elt F) → (⟨S147456, .f32⟩ : BufTy).Contents (Elt F)),
    binary main_v100 main_v113 main_v114 (addf : (⟨S147456, .f32⟩ : BufTy).Contents (Elt F) → (⟨S147456, .f32⟩ : BufTy).Contents (Elt F) → (⟨S147456, .f32⟩ : BufTy).Contents (Elt F)),
    unary main_v76 main_v115 ((extractStridedSlice S147456x1 ![0, 3] · slices_S147456x4_S147456x1_0_3) : (⟨S147456x4, .f32⟩ : BufTy).Contents (Elt F) → (⟨S147456x1, .f32⟩ : BufTy).Contents (Elt F)),
    reshape main_v115 main_v116 (rfl : (.f32 : EltTy) = .f32) shapeCasts_S147456x1_S147456,
    unary main_v116 main_v117 (Host.exp : (⟨S147456, .f32⟩ : BufTy).Contents (Elt F) → (⟨S147456, .f32⟩ : BufTy).Contents (Elt F)),
    binary main_v102 main_v117 main_v118 (addf : (⟨S147456, .f32⟩ : BufTy).Contents (Elt F) → (⟨S147456, .f32⟩ : BufTy).Contents (Elt F) → (⟨S147456, .f32⟩ : BufTy).Contents (Elt F)),
    unary main_v106 main_v119 (broadcastInDim S147456x1 ![0] bcast_S147456_S147456x1_0 : (⟨S147456, .f32⟩ : BufTy).Contents (Elt F) → (⟨S147456x1, .f32⟩ : BufTy).Contents (Elt F)),
    unary main_v110 main_v120 (broadcastInDim S147456x1 ![0] bcast_S147456_S147456x1_0 : (⟨S147456, .f32⟩ : BufTy).Contents (Elt F) → (⟨S147456x1, .f32⟩ : BufTy).Contents (Elt F)),
    unary main_v114 main_v121 (broadcastInDim S147456x1 ![0] bcast_S147456_S147456x1_0 : (⟨S147456, .f32⟩ : BufTy).Contents (Elt F) → (⟨S147456x1, .f32⟩ : BufTy).Contents (Elt F)),
    unary main_v118 main_v122 (broadcastInDim S147456x1 ![0] bcast_S147456_S147456x1_0 : (⟨S147456, .f32⟩ : BufTy).Contents (Elt F) → (⟨S147456x1, .f32⟩ : BufTy).Contents (Elt F)),
    nary ![main_v119, main_v120, main_v121, main_v122] main_v123 (fun u => boxes (F := F) (u 0) (u 1) (u 2) (u 3)),
    unary main_v74 main_v124 ((extractStridedSlice S147456x1 ![0, 1] · slices_S147456x2_S147456x1_0_1) : (⟨S147456x2, .f32⟩ : BufTy).Contents (Elt F) → (⟨S147456x1, .f32⟩ : BufTy).Contents (Elt F)),
    reshape main_v124 main_v125 (rfl : (.f32 : EltTy) = .f32) shapeCasts_S147456x1_S147456,
    unary main_v125 main_v126 (broadcastInDim S147456x1 ![0] bcast_S147456_S147456x1_0 : (⟨S147456, .f32⟩ : BufTy).Contents (Elt F) → (⟨S147456x1, .f32⟩ : BufTy).Contents (Elt F)),
    binary main_v123 main_v126 main_v127 (rows (F := F)) ]

set_option maxRecDepth 8192 in
/-- Every operation of this stretch touches the core's own buffers only. -/
theorem opsP_sub : (opsP : List (HloOp τ sig (Elt F))).Forall fun op => op.bufs ⊆ tcRefs τ sig :=
  ⟨reshape_bufs_sub .., nullary_bufs_sub .., unary_bufs_sub .., binary_bufs_sub ..⟩

set_option maxRecDepth 8192 in
/-- Every operation of this stretch touches the core's own buffers only. -/
theorem opsA_sub : (opsA : List (HloOp τ sig (Elt F))).Forall fun op => op.bufs ⊆ tcRefs τ sig :=
  ⟨unary_bufs_sub .., reshape_bufs_sub .., unary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., reshape_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
/-- Every operation of this stretch touches the core's own buffers only. -/
theorem opsB_sub : (opsB : List (HloOp τ sig (Elt F))).Forall fun op => op.bufs ⊆ tcRefs τ sig :=
  ⟨reshape_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., reshape_bufs_sub .., reshape_bufs_sub .., binary_bufs_sub .., unary_bufs_sub .., unary_bufs_sub .., binary_bufs_sub .., unary_bufs_sub .., reshape_bufs_sub .., unary_bufs_sub .., reshape_bufs_sub ..⟩

set_option maxRecDepth 8192 in
/-- Every operation of this stretch touches the core's own buffers only. -/
theorem opsC_sub : (opsC : List (HloOp τ sig (Elt F))).Forall fun op => op.bufs ⊆ tcRefs τ sig :=
  ⟨nullary_bufs_sub .., nullary_bufs_sub .., unary_bufs_sub .., binary_bufs_sub .., unary_bufs_sub .., reshape_bufs_sub .., nullary_bufs_sub .., nullary_bufs_sub .., unary_bufs_sub .., binary_bufs_sub .., unary_bufs_sub .., reshape_bufs_sub .., nullary_bufs_sub .., unary_bufs_sub .., nullary_bufs_sub .., unary_bufs_sub .., nullary_bufs_sub .., unary_bufs_sub .., nary_bufs_sub .., nullary_bufs_sub .., unary_bufs_sub .., nullary_bufs_sub .., unary_bufs_sub .., nullary_bufs_sub .., unary_bufs_sub .., nary_bufs_sub .., nullary_bufs_sub .., unary_bufs_sub .., nullary_bufs_sub .., unary_bufs_sub .., nullary_bufs_sub .., unary_bufs_sub .., nary_bufs_sub .., binary_bufs_sub .., reshape_bufs_sub .., binary_bufs_sub .., reshape_bufs_sub ..⟩

set_option maxRecDepth 8192 in
/-- Every operation of this stretch touches the core's own buffers only. -/
theorem opsD_sub : (opsD : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., binary_bufs_sub .., unary_bufs_sub .., reshape_bufs_sub .., unary_bufs_sub .., binary_bufs_sub .., unary_bufs_sub .., reshape_bufs_sub .., unary_bufs_sub .., binary_bufs_sub .., unary_bufs_sub .., unary_bufs_sub .., unary_bufs_sub .., unary_bufs_sub .., nary_bufs_sub .., unary_bufs_sub .., reshape_bufs_sub .., unary_bufs_sub .., binary_bufs_sub ..⟩

/-- The reference's operations, in order. -/
abbrev ops : List (HloOp τ sig (Elt F)) := opsP ++ (opsA ++ (opsB ++ (opsC ++ opsD)))

/-- The reference performs nothing but these operations. -/
theorem main_eq (c : Dev nD) : main (F := F) c = seq ops := rfl

/-- Every operation touches the core's own buffers only. -/
theorem ops_sub : (ops : List (HloOp τ sig (Elt F))).Forall fun op => op.bufs ⊆ tcRefs τ sig := by
  simp only [ops, List.forall_append]
  exact ⟨opsP_sub, opsA_sub, opsB_sub, opsC_sub, opsD_sub⟩

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

/-- Every run of the reference ends, with every buffer at what the operations leave in it. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.Host
end
-- ==== Proof.Spec.lean ====
/- The detection head written over plain indices, and the laws of the extended reals that carry the kernel's scaled form to it. -/
module
public import Idealize.ShloMosaic.PureOps.Ideal
public import Idealize.ShloMosaic.PureOps.Ideal.Laws
public import Mathlib.Data.EReal.Operations
@[expose] public section
noncomputable section
namespace Cert.Spec
open Idealize.ShloMosaic

/-- The seven argument arrays, over their own indices. -/
@[ext] structure Args where
  /-- the input feature map: channel, row, column -/
  x : Fin 1024 → Fin 128 → Fin 128 → EReal
  /-- the 3×3 convolution's weights: output channel, input channel, row and column offset -/
  bw : Fin 512 → Fin 1024 → Fin 3 → Fin 3 → EReal
  /-- the convolution's bias -/
  bb : Fin 512 → EReal
  /-- the class weights -/
  cw : Fin 18 → Fin 512 → EReal
  /-- the class bias -/
  cb : Fin 18 → EReal
  /-- the box weights -/
  rw : Fin 36 → Fin 512 → EReal
  /-- the box bias -/
  rb : Fin 36 → EReal

/-- The input with a border of zeros one wide: channel `c`, padded row `a`, padded column `b`. -/
def padded (A : Args) (c : Fin 1024) (a b : ℕ) : EReal :=
  if h : (1 ≤ a ∧ a - 1 < 128) ∧ 1 ≤ b ∧ b - 1 < 128 then A.x c ⟨a - 1, h.1.2⟩ ⟨b - 1, h.2.2⟩ else 0

/-- One tap of the convolution. -/
def tap (A : Args) (t : Fin 9) (o : Fin 512) (h v : ℕ) : EReal :=
  ∑ c : Fin 1024, A.bw o c ⟨t.val / 3, by omega⟩ ⟨t.val % 3, by omega⟩ * padded A c (t.val / 3 + h) (t.val % 3 + v)

/-- The convolution's nine taps added from the left. -/
def conv (A : Args) (o : Fin 512) (h v : ℕ) : EReal :=
  tap A 0 o h v + tap A 1 o h v + tap A 2 o h v + tap A 3 o h v + tap A 4 o h v + tap A 5 o h v + tap A 6 o h v + tap A 7 o h v + tap A 8 o h v

/-- The rectified feature map. -/
def feat (A : Args) (o : Fin 512) (h v : ℕ) : EReal := max (conv A o h v + A.bb o) 0

/-- The class value of channel `j` at a pixel. -/
def cls (A : Args) (j : Fin 18) (h v : ℕ) : EReal := ∑ o, A.cw j o * feat A o h v + A.cb j

/-- The box value of channel `j` at a pixel. -/
def reg (A : Args) (j : Fin 36) (h v : ℕ) : EReal := ∑ o, A.rw j o * feat A o h v + A.rb j

/-- The two channels a score is taken over: the ones that agree with channel `2a+1` modulo nine. -/
def chan (a : Fin 9) (e : Fin 2) : Fin 18 := ⟨e.val * 9 + (2 * a.val + 1) % 9, by omega⟩

/-- The larger of the two class values of a score, as a folded maximum. -/
def top (A : Args) (a : Fin 9) (h v : ℕ) : EReal :=
  max (Ideal.ofBits .f32 4286578688#32)
    ((Finset.univ : Finset (Fin 2)).fold max (Ideal.ofBits .f32 4286578688#32) fun e => cls A (chan a e) h v)

/-- The score of anchor `a` at a pixel: the softmax of the two class values at channel `2a+1`. -/
def score (A : Args) (a : Fin 9) (h v : ℕ) : EReal :=
  Ideal.div (Ideal.exp (cls A ⟨2 * a.val + 1, by omega⟩ h v - top A a h v)) (∑ e : Fin 2, Ideal.exp (cls A (chan a e) h v - top A a h v))

/-- The three base widths, by number. -/
def baseW (i : ℕ) : ℝ := if i < 1 then 23 else if i - 1 < 1 then 16 else 11
/-- The three base heights, by number. -/
def baseH (i : ℕ) : ℝ := if i < 1 then 12 else if i - 1 < 1 then 16 else 22
/-- The three scales, by number. -/
def scale (i : ℕ) : ℝ := if i < 1 then 8 else if i - 1 < 1 then 16 else 32

/-- Width of anchor `a`. -/
def aw (a : Fin 9) : EReal := (baseW (a.val / 3) : EReal) * (scale (a.val % 3) : EReal)
/-- Height of anchor `a`. -/
def ah (a : Fin 9) : EReal := (baseH (a.val / 3) : EReal) * (scale (a.val % 3) : EReal)

/-- A pixel's coordinate in the image: sixteen times its number, an extended real. -/
def coord (h : ℕ) : EReal := ((((16 * h : ℕ) : ℤ) : ℝ) : EReal)

/-- Entry `j` of the result row of anchor `a` at pixel `(h, v)`. -/
def cell (A : Args) (a : Fin 9) (j : Fin 5) (h v : ℕ) : EReal :=
  if j.val = 0 then coord h + aw a * reg A ⟨a.val * 4 + 0, by omega⟩ h v
  else if j.val = 1 then coord v + ah a * reg A ⟨a.val * 4 + 1, by omega⟩ h v
  else if j.val = 2 then aw a + Ideal.exp (reg A ⟨a.val * 4 + 2, by omega⟩ h v)
  else if j.val = 3 then ah a + Ideal.exp (reg A ⟨a.val * 4 + 3, by omega⟩ h v)
  else score A a h v

/-- The word of 8 is the real 8. -/
theorem bits8 : Ideal.ofBits .f32 1090519040#32 = ((8 : ℝ) : EReal) := by
  simp [Ideal.ofBits, Ideal.ieee, -EReal.coe_mul]; norm_num
/-- The word of 11 is the real 11. -/
theorem bits11 : Ideal.ofBits .f32 1093664768#32 = ((11 : ℝ) : EReal) := by
  simp [Ideal.ofBits, Ideal.ieee, -EReal.coe_mul]; norm_num
/-- The word of 12 is the real 12. -/
theorem bits12 : Ideal.ofBits .f32 1094713344#32 = ((12 : ℝ) : EReal) := by
  simp [Ideal.ofBits, Ideal.ieee, -EReal.coe_mul]; norm_num
/-- The word of 16 is the real 16. -/
theorem bits16 : Ideal.ofBits .f32 1098907648#32 = ((16 : ℝ) : EReal) := by
  simp [Ideal.ofBits, Ideal.ieee, -EReal.coe_mul]; norm_num
/-- The word of 22 is the real 22. -/
theorem bits22 : Ideal.ofBits .f32 1102053376#32 = ((22 : ℝ) : EReal) := by
  simp [Ideal.ofBits, Ideal.ieee, -EReal.coe_mul]; norm_num
/-- The word of 23 is the real 23. -/
theorem bits23 : Ideal.ofBits .f32 1102577664#32 = ((23 : ℝ) : EReal) := by
  simp [Ideal.ofBits, Ideal.ieee, -EReal.coe_mul]; norm_num
/-- The word of 32 is the real 32. -/
theorem bits32 : Ideal.ofBits .f32 1107296256#32 = ((32 : ℝ) : EReal) := by
  simp [Ideal.ofBits, Ideal.ieee, -EReal.coe_mul]; norm_num
/-- The word of 64 is the real 64. -/
theorem bits64 : Ideal.ofBits .f32 1115684864#32 = ((64 : ℝ) : EReal) := by
  simp [Ideal.ofBits, Ideal.ieee, -EReal.coe_mul]; norm_num

/-- A result row from an anchor's two coordinates, its width and height, its four box values and its score. -/
def rowOf (cx cy w h : EReal) (b : Fin 4 → EReal) (p : EReal) (j : Fin 5) : EReal :=
  if j.val = 0 then cx + w * b 0 else if j.val = 1 then cy + h * b 1
  else if j.val = 2 then w + Ideal.exp (b 2) else if j.val = 3 then h + Ideal.exp (b 3) else p

/-- Multiplying by a nonnegative real goes through a finite sum, whatever its terms. -/
theorem sum_mul_coe {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- Multiplying by a nonnegative real goes through a sum of two. -/
theorem add_mul_coe (x y : EReal) {c : ℝ} (hc : 0 ≤ c) : x * (c : EReal) + y * (c : EReal) = (x + y) * (c : EReal) :=
  (EReal.right_distrib_of_nonneg_of_ne_top (by exact_mod_cast hc) (EReal.coe_ne_top c) x y).symm

/-- Multiplying by a nonnegative real goes through the rectification. -/
theorem relu_mul_coe (x : EReal) {c : ℝ} (hc : 0 ≤ c) : max (x * (c : EReal)) 0 = max x 0 * (c : EReal) := by
  have h0 : (0 : EReal) ≤ (c : EReal) := by exact_mod_cast hc
  have hm : Monotone fun z : EReal => z * (c : EReal) := fun a b h => mul_le_mul_of_nonneg_right h h0
  have := hm.map_max (a := x) (b := 0)
  simpa using this.symm

/-- A feature scaled up by 64 against a weight scaled down by it: the two scalings cancel. -/
theorem scaled_mul (f w : EReal) : f * ((64 : ℝ) : EReal) * Ideal.div w ((64 : ℝ) : EReal) = w * f := by
  rw [Ideal.div_coe (by norm_num : (64 : ℝ) ≠ 0), mul_comm w, mul_assoc, ← mul_assoc ((64 : ℝ) : EReal), ← EReal.coe_mul]
  norm_num [mul_comm]

/-- An extended real that is a real number. -/
def Fin' (e : EReal) : Prop := ∃ r : ℝ, e = (r : EReal)

/-- A real is one. -/
theorem Fin'.coe (r : ℝ) : Fin' (r : EReal) := ⟨r, rfl⟩
/-- Sums of reals are real. -/
theorem Fin'.add {x y : EReal} : Fin' x → Fin' y → Fin' (x + y) := by
  rintro ⟨a, rfl⟩ ⟨b, rfl⟩; exact ⟨a + b, by push_cast; rfl⟩
/-- Products of reals are real. -/
theorem Fin'.mul {x y : EReal} : Fin' x → Fin' y → Fin' (x * y) := by
  rintro ⟨a, rfl⟩ ⟨b, rfl⟩; exact ⟨a * b, by push_cast; rfl⟩
/-- The rectification of a real is real. -/
theorem Fin'.relu {x : EReal} : Fin' x → Fin' (max x 0) := by
  rintro ⟨a, rfl⟩
  rcases max_choice (a : EReal) 0 with h | h <;> rw [h]
  · exact ⟨a, rfl⟩
  · exact ⟨0, by simp⟩
/-- A finite sum of reals is real, and is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
/-- Finite sums of reals are real. -/
theorem Fin'.sum {ι : Type*} (s : Finset ι) {f : ι → EReal} (h : ∀ i, Fin' (f i)) : Fin' (∑ i ∈ s, f i) := by
  choose g hg using h
  exact ⟨∑ i ∈ s, g i, by rw [← sum_coe]; exact Finset.sum_congr rfl fun i _ => hg i⟩

/-- Every entry of the five arrays the scores depend on is a real number. -/
structure Finite (A : Args) : Prop where
  /-- the input -/
  x : ∀ c h v, Fin' (A.x c h v)
  /-- the convolution's weights -/
  bw : ∀ o c a b, Fin' (A.bw o c a b)
  /-- its bias -/
  bb : ∀ o, Fin' (A.bb o)
  /-- the class weights -/
  cw : ∀ j o, Fin' (A.cw j o)
  /-- the class bias -/
  cb : ∀ j, Fin' (A.cb j)

variable {A : Args}

/-- Every tap of a convolution of finite arrays is real. -/
theorem Finite.tap (hA : Finite A) (t : Fin 9) (o : Fin 512) (h v : ℕ) : Fin' (tap A t o h v) := by
  refine Fin'.sum _ fun c => (hA.bw _ _ _ _).mul ?_
  unfold padded
  split
  · exact hA.x _ _ _
  · exact ⟨0, by simp⟩
/-- The feature map of finite arrays is real. -/
theorem Finite.feat (hA : Finite A) (o : Fin 512) (h v : ℕ) : Fin' (feat A o h v) := by
  have T := fun t => hA.tap t o h v
  exact Fin'.relu (((((((((((T 0).add (T 1)).add (T 2)).add (T 3)).add (T 4)).add (T 5)).add (T 6)).add (T 7)).add (T 8))).add (hA.bb o))
/-- The class values of finite arrays are real. -/
theorem Finite.cls (hA : Finite A) (j : Fin 18) (h v : ℕ) : Fin' (cls A j h v) :=
  (Fin'.sum _ fun o => (hA.cw j o).mul (hA.feat o h v)).add (hA.cb j)

/-- A difference of two class values is the value of the difference of the weights. -/
theorem cls_sub (hA : Finite A) (p q : Fin 18) (h v : ℕ) :
    ∑ o, (A.cw p o - A.cw q o) * feat A o h v + (A.cb p - A.cb q) = cls A p h v - cls A q h v := by
  choose f hf using fun o => hA.feat o h v
  choose w hw using hA.cw
  choose b hb using hA.cb
  unfold cls
  simp only [hf, hw, hb, ← EReal.coe_sub, ← EReal.coe_mul, sum_coe, ← EReal.coe_add]
  congr 1
  simp only [sub_mul, Finset.sum_sub_distrib]
  ring

/-- The softmax over two real values is the logistic of their difference, whichever real is subtracted first. -/
theorem softmax_logistic (x y m : ℝ) :
    Ideal.div (Ideal.exp ((x : EReal) - (m : EReal))) (Ideal.exp ((x : EReal) - (m : EReal)) + Ideal.exp ((y : EReal) - (m : EReal)))
      = Ideal.logistic ((x : EReal) - (y : EReal)) := by
  simp only [← EReal.coe_sub, Ideal.exp_coe, Ideal.logistic_coe, ← EReal.coe_add]
  have hx := Real.exp_pos (x - m)
  have hy := Real.exp_pos (y - m)
  rw [Ideal.div_coe (by positivity), ← EReal.coe_mul]
  congr 1
  have e : Real.exp (y - m) = Real.exp (-(x - y)) * Real.exp (x - m) := by rw [← Real.exp_add]; congr 1; ring
  rw [e]
  field_simp

/-- The folded maximum of two reals is one of them. -/
theorem top_real (hA : Finite A) (a : Fin 9) (h v : ℕ) : Fin' (top A a h v) := by
  obtain ⟨x, hx⟩ := hA.cls (chan a 0) h v
  obtain ⟨y, hy⟩ := hA.cls (chan a 1) h v
  have hb : Ideal.ofBits .f32 4286578688#32 = ⊥ := by simp [Ideal.ofBits, Ideal.ieee]
  have hu : (Finset.univ : Finset (Fin 2)) = {0, 1} := by decide
  unfold top
  rw [hb, hu, Finset.fold_insert (by decide), Finset.fold_singleton, hx, hy]
  simp only [bot_le, sup_of_le_right, max_eq_right, max_eq_left, sup_of_le_left]
  rcases max_choice (x : EReal) (y : EReal) with h | h <;> rw [h]
  · exact ⟨x, rfl⟩
  · exact ⟨y, rfl⟩

/-- From anchor four on, the partner of channel `2a+1` is the one nine below it. -/
theorem other_chan : ∀ a : Fin 9, ¬ 2 * a.val + 1 < 9 → 0 * 9 + (2 * a.val + 1) % 9 = (2 * a.val + 10) % 18 := by decide

/-- The score is the logistic of the difference of the two class values: channel `2a+1` less channel `2a+10` modulo 18. -/
theorem score_eq (hA : Finite A) (a : Fin 9) (h v : ℕ) :
    score A a h v = Ideal.logistic (cls A ⟨2 * a.val + 1, by omega⟩ h v - cls A ⟨(2 * a.val + 10) % 18, by omega⟩ h v) := by
  obtain ⟨m, hm⟩ := top_real hA a h v
  obtain ⟨x, hx⟩ := hA.cls ⟨2 * a.val + 1, by omega⟩ h v
  obtain ⟨y, hy⟩ := hA.cls ⟨(2 * a.val + 10) % 18, by omega⟩ h v
  unfold score
  rw [hm, Fin.sum_univ_two, hx, hy, ← softmax_logistic x y m]
  by_cases hlt : 2 * a.val + 1 < 9
  · rw [show chan a 0 = ⟨2 * a.val + 1, by omega⟩ from Fin.ext (by show 0 * 9 + (2 * a.val + 1) % 9 = 2 * a.val + 1; omega),
      show chan a 1 = ⟨(2 * a.val + 10) % 18, by omega⟩ from Fin.ext (by show 1 * 9 + (2 * a.val + 1) % 9 = (2 * a.val + 10) % 18; omega), hx, hy]
  · rw [show chan a 1 = ⟨2 * a.val + 1, by omega⟩ from Fin.ext (by show 1 * 9 + (2 * a.val + 1) % 9 = 2 * a.val + 1; omega),
      show chan a 0 = ⟨(2 * a.val + 10) % 18, by omega⟩ from Fin.ext (other_chan a hlt), hx, hy, add_comm (Ideal.exp (y - m))]

end Cert.Spec
end
-- ==== Proof.RefVal.lean ====
/- What the reference leaves in its result, element by element. -/
module
public import proofs.«01_k».proof.Proof.RefRun
public import proofs.«01_k».proof.Proof.Spec
public import Idealize.ShloMosaic.Lib.StableHlo.RunRead
public import Idealize.ShloMosaic.Lib.Pointwise
@[expose] public section
set_option maxRecDepth 16384
noncomputable section
namespace Cert.ReferenceIdeal.Host
open Cert.ReferenceIdeal Cert.ReferenceIdeal.Gen Idealize.ShloMosaic Idealize.ShloMosaic.TcCoe Idealize.SL.Sem Idealize.ShloMosaic.StableHlo Idealize.ShloMosaic.Tactic

variable (W : Valuation τ sig (Elt Ideal))

/-- The reference's arguments over their plain indices. -/
def args : Spec.Args where
  x := fun c h v => W (Proc.devRef .tc main_arg0) (ix4 0 c h v)
  bw := fun o c a b => W (Proc.devRef .tc main_arg1) (ix4 o c a b)
  bb := fun o => W (Proc.devRef .tc main_arg2) (ix1 o)
  cw := fun j o => W (Proc.devRef .tc main_arg3) (ix4 j o 0 0)
  cb := fun j => W (Proc.devRef .tc main_arg4) (ix1 j)
  rw := fun j o => W (Proc.devRef .tc main_arg5) (ix4 j o 0 0)
  rb := fun j => W (Proc.devRef .tc main_arg6) (ix1 j)

/-- The bordered input. -/
theorem padded_read (c : Fin 1024) (a b : Fin 130) :
    (show Vec Ideal S1024x130x130 .f32 from after opsP W (Proc.devRef .tc main_v1)) (ix3 c a b) = Spec.padded (args W) c a.val b.val := by
  after_reads_simp
  pointwise []
  have hz : (FloatOps.sitofp .f32 0#32 : Ideal .f32) = (0 : EReal) := by
    show (((BitVec.toInt 0#32 : ℤ) : ℝ) : EReal) = 0
    simp
  simp only [Spec.padded, args, hz]

/-- The feature map, where the bordered input and the weights are as said. -/
theorem feat_read (A : Spec.Args)
    (hv : ∀ c a b, (show Vec Ideal S1024x130x130 .f32 from W (Proc.devRef .tc main_v1)) (ix3 c a b) = Spec.padded A c a.val b.val)
    (hA : args W = A) (o : Fin 512) (h v : Fin 128) :
    (show Vec Ideal S512x128x128 .f32 from after opsA W (Proc.devRef .tc main_v49)) (ix3 o h v) = Spec.feat A o h.val v.val := by
  after_reads_simp
  pointwise []
  simp only [hv, ← hA]
  unfold Spec.feat Spec.conv Spec.tap
  refine congrArg₂ max (congrArg₂ (· + ·) ?_ rfl) rfl
  refine congrArg₂ (· + ·) (congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_) ?_
  all_goals exact Finset.sum_congr rfl fun c _ =>
    congrArg₂ (· * ·) rfl (congrArg₂ (Spec.padded (args W) c) (by first | rfl | exact (Nat.zero_add _).symm) (by first | rfl | exact (Nat.zero_add _).symm))

/-- The score column. -/
theorem score_read (A : Spec.Args)
    (hv : ∀ o h v, (show Vec Ideal S512x128x128 .f32 from W (Proc.devRef .tc main_v49)) (ix3 o h v) = Spec.feat A o h.val v.val)
    (hA : args W = A) (n : Fin 147456)  :
    (show Vec Ideal S147456x2 .f32 from after opsB W (Proc.devRef .tc main_v74)) (ix2 n 1) = Spec.score A ⟨n.val % 9, by omega⟩ (n.val / 1152) (n.val / 9 % 128) := by
  after_reads_simp
  pointwise []
  have hn := n.isLt
  have hq : n.val / 1152 < 128 := by omega
  have e1 : ((n.val % 9 * 2 + 1) % 9 * 128 + n.val / 1152) / 128 = (2 * (n.val % 9) + 1) % 9 := by
    rw [mul_comm (n.val % 9) 2]
    generalize (2 * (n.val % 9) + 1) % 9 = s
    omega
  have e2 : ((n.val % 9 * 2 + 1) % 9 * 128 + n.val / 1152) % 128 = n.val / 1152 := by
    generalize (n.val % 9 * 2 + 1) % 9 = s
    omega
  have e3 : (n.val % 9 * 2 + 1) / 9 * 9 + (2 * (n.val % 9) + 1) % 9 = 2 * (n.val % 9) + 1 := by omega
  simp only [hv, ← hA, e1, e2, e3]
  simp only [Spec.score, Spec.top, Spec.cls, Spec.chan, args]

/-- The box values. -/
theorem reg_read (A : Spec.Args)
    (hv : ∀ o h v, (show Vec Ideal S512x128x128 .f32 from W (Proc.devRef .tc main_v49)) (ix3 o h v) = Spec.feat A o h.val v.val)
    (hA : args W = A) (n : Fin 147456) (j : Fin 4) :
    (show Vec Ideal S147456x4 .f32 from after opsB W (Proc.devRef .tc main_v76)) (ix2 n j) = Spec.reg A ⟨n.val % 9 * 4 + j.val, by omega⟩ (n.val / 1152) (n.val / 9 % 128) := by
  after_reads_simp
  pointwise []
  simp only [hv, ← hA]
  simp only [Spec.reg, args]

/-- A pixel's number times sixteen, as an integer word: no overflow. -/
theorem coord_int (k : Fin 128) : (IntOp.muli (BitVec.ofNat 32 k.val) 16#32).toInt = ((16 * k.val : ℕ) : ℤ) := by
  revert k
  decide +kernel

/-- A pixel's coordinate as the reference computes it. -/
theorem coord_word (k : Fin 128) : (FloatOps.sitofp .f32 (IntOp.muli (BitVec.ofNat 32 k.val) 16#32) : Ideal .f32) = Spec.coord k.val := by
  show (((BitVec.toInt _ : ℤ) : ℝ) : EReal) = _
  rw [coord_int k]
  rfl

/-- The first coordinate of an anchor. -/
theorem first_read (n : Fin 147456)  :
    (show Vec Ideal S147456 .f32 from after opsC W (Proc.devRef .tc main_v81)) (ix1 n) = Spec.coord (n.val / 1152) := by
  after_reads_simp
  pointwise []
  exact coord_word ⟨n.val / 1152, by omega⟩

/-- The second coordinate of an anchor. -/
theorem second_read (n : Fin 147456)  :
    (show Vec Ideal S147456 .f32 from after opsC W (Proc.devRef .tc main_v86)) (ix1 n) = Spec.coord (n.val / 9 % 128) := by
  after_reads_simp
  pointwise []
  exact coord_word ⟨n.val / 9 % 128, by omega⟩

/-- The width of an anchor. -/
theorem width_read (n : Fin 147456)  :
    (show Vec Ideal S147456 .f32 from after opsC W (Proc.devRef .tc main_v100)) (ix1 n) = Spec.aw ⟨n.val % 9, by omega⟩ := by
  after_reads_simp
  simp only [Matrix.cons_val]
  after_reads_simp
  pointwise [widths, sizes]
  have e1 : n.val % 9 / 3 = n.val / 3 % 3 := by omega
  have e2 : n.val % 9 % 3 = n.val % 3 := by omega
  simp only [Spec.aw, Spec.baseW, Spec.scale, e1, e2, Spec.bits8, Spec.bits11, Spec.bits12, Spec.bits16, Spec.bits22, Spec.bits23, Spec.bits32]
  split_ifs <;> rfl

/-- The height of an anchor. -/
theorem height_read (n : Fin 147456)  :
    (show Vec Ideal S147456 .f32 from after opsC W (Proc.devRef .tc main_v102)) (ix1 n) = Spec.ah ⟨n.val % 9, by omega⟩ := by
  after_reads_simp
  simp only [Matrix.cons_val]
  after_reads_simp
  pointwise [heights, sizes]
  have e1 : n.val % 9 / 3 = n.val / 3 % 3 := by omega
  have e2 : n.val % 9 % 3 = n.val % 3 := by omega
  simp only [Spec.ah, Spec.baseH, Spec.scale, e1, e2, Spec.bits8, Spec.bits11, Spec.bits12, Spec.bits16, Spec.bits22, Spec.bits23, Spec.bits32]
  split_ifs <;> rfl

/-- The result from the stretch before it. -/
theorem rows_read (n : Fin 147456) (j : Fin 5) :
    (show Vec Ideal S147456x5 .f32 from after opsD W (Proc.devRef .tc main_v127)) (ix2 n j)
      = Spec.rowOf ((show Vec Ideal S147456 .f32 from W (Proc.devRef .tc main_v81)) (ix1 n)) ((show Vec Ideal S147456 .f32 from W (Proc.devRef .tc main_v86)) (ix1 n))
          ((show Vec Ideal S147456 .f32 from W (Proc.devRef .tc main_v100)) (ix1 n)) ((show Vec Ideal S147456 .f32 from W (Proc.devRef .tc main_v102)) (ix1 n))
          (fun q => (show Vec Ideal S147456x4 .f32 from W (Proc.devRef .tc main_v76)) (ix2 n q))
          ((show Vec Ideal S147456x2 .f32 from W (Proc.devRef .tc main_v74)) (ix2 n 1)) j := by
  after_reads_simp
  simp only [Matrix.cons_val]
  after_reads_simp
  pointwise [boxes, rows]
  unfold Spec.rowOf
  obtain ⟨j, hj⟩ := j
  match j, hj with
  | 0, _ => rfl
  | 1, _ => rfl
  | 2, _ => rfl
  | 3, _ => rfl
  | 4, _ => rfl

/-- The first stretch leaves the arguments alone. -/
theorem args_P : args (after opsP W) = args W := by
  simp only [args]
  after_reads_simp
/-- The second stretch leaves the arguments alone. -/
theorem args_A : args (after opsA W) = args W := by
  simp only [args]
  after_reads_simp

/-- What the reference leaves at row `n`, column `j` of its result. -/
theorem out_read (n : Fin 147456) (j : Fin 5) :
    (show Vec Ideal S147456x5 .f32 from after ops W (Proc.devRef .tc main_v127)) (ix2 n j)
      = Spec.cell (args W) ⟨n.val % 9, by omega⟩ j (n.val / 1152) (n.val / 9 % 128) := by
  have hP := padded_read W
  have hF := feat_read (after opsP W) (args W) hP (args_P W)
  have hS := score_read (after opsA (after opsP W)) (args W) hF (by rw [args_A, args_P]) n
  have hR := reg_read (after opsA (after opsP W)) (args W) hF (by rw [args_A, args_P]) n
  unfold ops
  rw [after_append, after_append, after_append, after_append, rows_read]
  rw [first_read, second_read, width_read, height_read]
  have h74 : ∀ V : Valuation τ sig (Elt Ideal), after opsC V (Proc.devRef .tc main_v74) = V (Proc.devRef .tc main_v74) := fun V => by after_reads_simp
  have h76 : ∀ V : Valuation τ sig (Elt Ideal), after opsC V (Proc.devRef .tc main_v76) = V (Proc.devRef .tc main_v76) := fun V => by after_reads_simp
  rw [h74, h76]
  simp only [hR, hS]
  rfl

/-- The reference leaves its arguments as they were. -/
theorem args_kept :
    after ops W (Proc.devRef .tc main_arg0) = W (Proc.devRef .tc main_arg0) ∧ after ops W (Proc.devRef .tc main_arg1) = W (Proc.devRef .tc main_arg1)
      ∧ after ops W (Proc.devRef .tc main_arg2) = W (Proc.devRef .tc main_arg2) ∧ after ops W (Proc.devRef .tc main_arg3) = W (Proc.devRef .tc main_arg3)
      ∧ after ops W (Proc.devRef .tc main_arg4) = W (Proc.devRef .tc main_arg4) ∧ after ops W (Proc.devRef .tc main_arg5) = W (Proc.devRef .tc main_arg5)
      ∧ after ops W (Proc.devRef .tc main_arg6) = W (Proc.devRef .tc main_arg6) := by
  unfold ops
  simp only [after_append]
  refine ⟨?_, ?_, ?_, ?_, ?_, ?_, ?_⟩ <;> after_reads_simp

end Cert.ReferenceIdeal.Host
end
-- ==== Proof.Taps.lean ====
module
public import proofs.«01_k».proof.Proof.Gen.KernelIdeal.Frame
public import Idealize.ShloMosaic.Lib.Pipeline.ValueKit
public import Idealize.ShloMosaic.Lib.Pipeline.ReadBack
public import Idealize.ShloMosaic.Lib.Pointwise
@[expose] public section
set_option maxRecDepth 16384
noncomputable section
namespace Cert.KernelIdeal.Val
open Idealize.ShloMosaic Idealize.ShloMosaic.TcCoe Idealize.ShloMosaic.Tactic Cert.KernelIdeal.Gen

/-- Rows of two neighbouring input blocks of four rows, read as one slab of eight rows: row `r`, column `q`, channel `k`. -/
def slab (xa xb : Vec Ideal S4x130x1024 .fp8e4m3) (r q : ℕ) (k : Fin 1024) : EReal :=
  if hq : q < 130 then
    if h : r < 4 then xa (ix3 ⟨r, h⟩ ⟨q, hq⟩ k)
    else if h' : r - 4 < 4 then xb (ix3 ⟨r - 4, h'⟩ ⟨q, hq⟩ k) else 0
  else 0

/-- The contribution of tap `t` (row offset `t / 3`, column offset `t % 3`) of the convolution to accumulator row `r`, channel `o`. -/
def tap (xa xb : Vec Ideal S4x130x1024 .fp8e4m3) (w : Vec Ideal S9x1024x512 .fp8e4m3) (t : Fin 9) (r o : Fin 512) : EReal :=
  ∑ k : Fin 1024, slab xa xb (r.val / 128 + t.val / 3) (r.val % 128 + t.val % 3) k * w (ix3 t k o)

/-- The accumulator after the taps `0 … n`, added from the left. -/
def part (xa xb : Vec Ideal S4x130x1024 .fp8e4m3) (w : Vec Ideal S9x1024x512 .fp8e4m3) : (n : ℕ) → n < 9 → S512x512.Idx → EReal
  | 0, h, y => tap xa xb w ⟨0, h⟩ (y 0) (y 1)
  | n + 1, h, y => part xa xb w n (by omega) y + tap xa xb w ⟨n + 1, h⟩ (y 0) (y 1)

/-- An element of the first block is an element of the slab. -/
theorem slab_first (xa xb : Vec Ideal S4x130x1024 .fp8e4m3) (p : Fin 4) (q : Fin 130) (k : Fin 1024) {r s : ℕ} (hr : r = p.val) (hs : s = q.val) :
    xa (ix3 p q k) = slab xa xb r s k := by
  subst hr hs
  unfold slab
  rw [dif_pos q.isLt, dif_pos p.isLt]

/-- An element of the second block is an element of the slab, four rows further down. -/
theorem slab_second (xa xb : Vec Ideal S4x130x1024 .fp8e4m3) (p : Fin 4) (q : Fin 130) (k : Fin 1024) {r s : ℕ} (hr : r = p.val + 4) (hs : s = q.val) :
    xb (ix3 p q k) = slab xa xb r s k := by
  subst hr hs
  have hp : p.val + 4 - 4 < 4 := by have := p.isLt; omega
  unfold slab
  rw [dif_pos q.isLt, dif_neg (by omega), dif_pos hp]
  exact congrArg (fun i => xb (ix3 i q k)) (Fin.ext (by show p.val = p.val + 4 - 4; omega))

/-- One product over the channels is the tap that its rows of the slab and its weight matrix belong to. -/
theorem tap_eq (xa xb : Vec Ideal S4x130x1024 .fp8e4m3) (w : Vec Ideal S9x1024x512 .fp8e4m3) {n : ℕ} (h : n < 9) (y : S512x512.Idx) (ρ : ℕ) (hy : (y 0).val = ρ) (t : Fin 9) (o : Fin 512)
    (g : Fin 1024 → EReal) (ht : t = ⟨n, h⟩) (ho : o = y 1) (hg : ∀ k, g k = slab xa xb (ρ / 128 + n / 3) (ρ % 128 + n % 3) k) :
    ∑ k, g k * w (ix3 t k o) = tap xa xb w ⟨n, h⟩ (y 0) (y 1) := by
  subst ht ho hy
  exact Finset.sum_congr rfl fun k _ => congrArg (· * _) (hg k)

/-- Adding one more tap to the accumulator, at an index in row `ρ`. -/
theorem part_step (xa xb : Vec Ideal S4x130x1024 .fp8e4m3) (w : Vec Ideal S9x1024x512 .fp8e4m3) {n : ℕ} (h : n + 1 < 9) (y : S512x512.Idx) (ρ : ℕ) (hy : (y 0).val = ρ) (t : Fin 9) (o : Fin 512)
    (v : EReal) (g : Fin 1024 → EReal) (hv : v = part xa xb w n (by omega) y) (ht : t = ⟨n + 1, h⟩) (ho : o = y 1)
    (hg : ∀ k, g k = slab xa xb (ρ / 128 + (n + 1) / 3) (ρ % 128 + (n + 1) % 3) k) :
    v + ∑ k, g k * w (ix3 t k o) = part xa xb w (n + 1) h y := by
  rw [hv, tap_eq xa xb w h y ρ hy t o g ht ho hg]
  rfl

/-- A load of part of the accumulator reads there what the stores before it left. -/
theorem load_top (v : View sig .tc .vmem S512x512 .f32) (L : List (View.Piece (Elt Ideal) S512x512 .f32)) (G : S512x512.Idx → EReal) (hL : View.canon L = G) (r : Rect S512x512)
    (x : r.shape.Idx) : v.readCov L r.toLoadRect x = G (r.emb x) := by
  rw [View.readCov_eq_canon', hL]; rfl

/-- The whole accumulator's rectangle leaves an index where it is. -/
theorem whole_emb (inb : ∀ i, (![0, 0] : Fin 2 → ℕ) i + S512x512.size i ≤ S512x512.size i) (r o : Fin 512) :
    (Rect.unit (s := S512x512) ![0, 0] S512x512.size inb).emb (ix2 r o) = ix2 r o := by
  refine funext fun i => Fin.ext ?_
  match i with
  | 0 => show 0 + 1 * r.val = r.val; omega
  | 1 => show 0 + 1 * o.val = o.val; omega

/-- A store of the rows above `R` does not touch the rows from `R` on. -/
theorem canon_below {R : ℕ} {s₁ s₂ : Fin 2 → ℕ} (inb₁ : ∀ i, (![0, 0] : Fin 2 → ℕ) i + s₁ i ≤ S512x512.size i)
    (inb₂ : ∀ i, (![R, 0] : Fin 2 → ℕ) i + s₂ i ≤ S512x512.size i) (h₁ : s₁ = ![R, 512])
    (w₁ : (Rect.unit (s := S512x512) ![0, 0] s₁ inb₁).shape.Idx → Elt Ideal .f32) (L : List (View.Piece (Elt Ideal) S512x512 .f32))
    (x : (Rect.unit (s := S512x512) ![R, 0] s₂ inb₂).shape.Idx) :
    View.canon (⟨Rect.unit ![0, 0] s₁ inb₁, w₁⟩ :: L) ((Rect.unit (s := S512x512) ![R, 0] s₂ inb₂).emb x) = View.canon L ((Rect.unit (s := S512x512) ![R, 0] s₂ inb₂).emb x) := by
  subst h₁
  refine View.canon_cons_of_not_mem _ L ?_
  show _ ∉ (Rect.unit (s := S512x512) ![0, 0] ![R, 512] inb₁).set
  rw [Rect.mem_set_unit]
  intro h
  have h0 : R + 1 * (x 0).val < 0 + R := (h 0).2
  omega

/-- So a load of the rows from `R` on reads what was there before a store of the rows above. -/
theorem load_bottom (v : View sig .tc .vmem S512x512 .f32) {R : ℕ} {s₁ s₂ : Fin 2 → ℕ} (inb₁ : ∀ i, (![0, 0] : Fin 2 → ℕ) i + s₁ i ≤ S512x512.size i)
    (inb₂ : ∀ i, (![R, 0] : Fin 2 → ℕ) i + s₂ i ≤ S512x512.size i) (h₁ : s₁ = ![R, 512])
    (w₁ : (Rect.unit (s := S512x512) ![0, 0] s₁ inb₁).shape.Idx → Elt Ideal .f32) (L : List (View.Piece (Elt Ideal) S512x512 .f32)) (G : S512x512.Idx → EReal) (hL : View.canon L = G)
    (x : (Rect.unit (s := S512x512) ![R, 0] s₂ inb₂).shape.Idx) :
    v.readCov (⟨Rect.unit ![0, 0] s₁ inb₁, w₁⟩ :: L) (Rect.unit (s := S512x512) ![R, 0] s₂ inb₂).toLoadRect x = G ((Rect.unit (s := S512x512) ![R, 0] s₂ inb₂).emb x) :=
  (load_top v _ _ rfl _ x).trans ((canon_below inb₁ inb₂ h₁ w₁ L x).trans (congrFun hL _))

/-- Two stores that between them cover the accumulator, each a block of `G`, leave `G`, whatever was there before. -/
theorem canon_two (G : S512x512.Idx → EReal) {R : ℕ} {s₁ s₂ : Fin 2 → ℕ} (inb₁ : ∀ i, (![0, 0] : Fin 2 → ℕ) i + s₁ i ≤ S512x512.size i)
    (inb₂ : ∀ i, (![R, 0] : Fin 2 → ℕ) i + s₂ i ≤ S512x512.size i) (h₁ : s₁ = ![R, 512]) (h₂ : s₂ = ![512 - R, 512])
    (w₁ : (Rect.unit (s := S512x512) ![0, 0] s₁ inb₁).shape.Idx → Elt Ideal .f32) (w₂ : (Rect.unit (s := S512x512) ![R, 0] s₂ inb₂).shape.Idx → Elt Ideal .f32)
    (L : List (View.Piece (Elt Ideal) S512x512 .f32))
    (e₁ : ∀ x, w₁ x = G ((Rect.unit (s := S512x512) ![0, 0] s₁ inb₁).emb x)) (e₂ : ∀ x, w₂ x = G ((Rect.unit (s := S512x512) ![R, 0] s₂ inb₂).emb x)) :
    View.canon (⟨Rect.unit ![R, 0] s₂ inb₂, w₂⟩ :: ⟨Rect.unit ![0, 0] s₁ inb₁, w₁⟩ :: L) = G := by
  funext y
  refine View.canon_append_of_piecesOf (Val := Elt Ideal) (e := .f32) G L [⟨Rect.unit ![R, 0] s₂ inb₂, w₂⟩, ⟨Rect.unit ![0, 0] s₁ inb₁, w₁⟩] ⟨e₂, e₁, trivial⟩ y ?_
  subst h₁ h₂
  have h0 : (y 0).val < 512 := (y 0).isLt
  have h1 : (y 1).val < 512 := (y 1).isLt
  by_cases h : (y 0).val < R
  · refine ⟨⟨Rect.unit ![0, 0] ![R, 512] inb₁, w₁⟩, by simp, ?_⟩
    show y ∈ (Rect.unit ![0, 0] ![R, 512] inb₁).set
    rw [Rect.mem_set_unit]
    refine Fin.forall_fin_two.mpr ⟨?_, ?_⟩
    · show 0 ≤ (y 0).val ∧ (y 0).val < 0 + R; omega
    · show 0 ≤ (y 1).val ∧ (y 1).val < 0 + 512; omega
  · refine ⟨⟨Rect.unit ![R, 0] ![512 - R, 512] inb₂, w₂⟩, by simp, ?_⟩
    show y ∈ (Rect.unit ![R, 0] ![512 - R, 512] inb₂).set
    rw [Rect.mem_set_unit]
    refine Fin.forall_fin_two.mpr ⟨?_, ?_⟩
    · show R ≤ (y 0).val ∧ (y 0).val < R + (512 - R); omega
    · show 0 ≤ (y 1).val ∧ (y 1).val < 0 + 512; omega

end Cert.KernelIdeal.Val
end
-- ==== Proof.Accum.lean ====
/- The accumulator `y_acc` tap by tap: after each tap's stores it holds, at every row and channel, the sum of the taps so far. -/
module
public import proofs.«01_k».proof.Proof.Taps
@[expose] public section
set_option maxRecDepth 16384
noncomputable section
namespace Cert.KernelIdeal.Val
open Idealize.ShloMosaic Idealize.ShloMosaic.TcCoe Idealize.ShloMosaic.Tactic Cert.KernelIdeal.Gen

variable (c : Dev nD) (arg1 : Memref sig .tc .vmem S4x130x1024 .fp8e4m3) (harg1 : arg1.IsWhole) (arg2 : Memref sig .tc .vmem S4x130x1024 .fp8e4m3) (harg2 : arg2.IsWhole)
  (arg3 : Memref sig .tc .vmem S9x1024x512 .fp8e4m3) (harg3 : arg3.IsWhole) (arg10 : Memref sig .tc .vmem S512x512 .f32)
  (x0 x1 : Vec Ideal S4x130x1024 .fp8e4m3) (x2 : Vec Ideal S9x1024x512 .fp8e4m3)

/-- After the first tap. -/
theorem acc1 : View.canon (kernelRun0_A.sl.HS0_1 c arg1 harg1 arg3 harg3 x0 x2) = part x0 x1 x2 0 (by decide) := by
  unfold kernelRun0_A.sl.HS0_1
  rw [View.canon_cons_unit_lit' (h := by decide)]
  funext y
  idx_vars y
  simp only [View.readAt_eq_ld, Memref.IsWhole.read_unread]
  pointwise [k0_pay2]
  exact tap_eq x0 x1 x2 _ _ y0.val rfl _ _ _ rfl rfl fun k => slab_first x0 x1 _ _ k (by dsimp only; omega) (by dsimp only; omega)

/-- After 2 taps. -/
theorem acc2 : View.canon (kernelRun0_A.sl.HS0_2 c arg1 harg1 arg3 harg3 arg10 x0 x2) = part x0 x1 x2 1 (by decide) := by
  unfold kernelRun0_A.sl.HS0_2
  rw [View.canon_cons_unit_lit' (h := by decide)]
  funext y
  idx_vars y
  simp only [View.readAt_eq_ld, Memref.IsWhole.read_unread]
  pointwise [k0_pay3]
  refine part_step x0 x1 x2 _ _ y0.val rfl _ _ _ _ ?_ rfl rfl fun k => slab_first x0 x1 _ _ k (by dsimp only; omega) (by dsimp only; omega)
  exact (load_top _ _ _ (acc1 c arg1 harg1 arg3 harg3 x0 x1 x2) _ _).trans (congrArg _ (whole_emb _ y0 y1))

/-- After 3 taps. -/
theorem acc3 : View.canon (kernelRun0_A.sl.HS0_3 c arg1 harg1 arg3 harg3 arg10 x0 x2) = part x0 x1 x2 2 (by decide) := by
  unfold kernelRun0_A.sl.HS0_3
  rw [View.canon_cons_unit_lit' (h := by decide)]
  funext y
  idx_vars y
  simp only [View.readAt_eq_ld, Memref.IsWhole.read_unread, kernelRun0_A.sl.r]
  pointwise [kernelRun0_A.sl.r, k0_pay4, k0_pay5]
  refine part_step x0 x1 x2 _ _ y0.val rfl _ _ _ _ ?_ rfl rfl fun k => slab_first x0 x1 _ _ k (by dsimp only; omega) (by dsimp only; omega)
  exact (load_top _ _ _ (acc2 c arg1 harg1 arg3 harg3 arg10 x0 x1 x2) _ _).trans (congrArg _ (whole_emb _ y0 y1))

/-- After 4 taps. -/
theorem acc4 : View.canon (kernelRun0_A.sl.HS0_5 c arg1 harg1 arg2 harg2 arg3 harg3 arg10 x0 x1 x2) = part x0 x1 x2 3 (by decide) := by
  unfold kernelRun0_A.sl.HS0_5
  conv_lhs => unfold kernelRun0_A.sl.HS0_4
  refine canon_two _ _ _ rfl rfl _ _ _ (fun x => ?_) (fun x => ?_)
  · obtain ⟨r, o, rfl⟩ : ∃ (r : Fin 384) (o : Fin 512), x = ix2 r o := ⟨x 0, x 1, eq_ix2 x⟩
    simp only [View.readAt_eq_ld, Memref.IsWhole.read_unread]
    pointwise [k0_pay7, k0_pay6]
    exact part_step x0 x1 x2 _ _ (0 + 1 * r.val) rfl _ _ _ _ (load_top _ _ _ (acc3 c arg1 harg1 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 128) (o : Fin 512), x = ix2 r o := ⟨x 0, x 1, eq_ix2 x⟩
    simp only [View.readAt_eq_ld, Memref.IsWhole.read_unread]
    pointwise [k0_pay8, k0_pay6]
    exact part_step x0 x1 x2 _ _ (384 + 1 * r.val) rfl _ _ _ _ (load_bottom _ _ _ rfl _ _ _ (acc3 c arg1 harg1 arg3 harg3 arg10 x0 x1 x2) _) rfl (Fin.ext (by show o.val = 0 + 1 * o.val; omega))
      fun k => slab_second x0 x1 _ _ k (by show _ = 0 + 4; omega) (by dsimp only; omega)

/-- After 5 taps. -/
theorem acc5 : View.canon (kernelRun0_A.sl.HS0_7 c arg1 harg1 arg2 harg2 arg3 harg3 arg10 x0 x1 x2) = part x0 x1 x2 4 (by decide) := by
  unfold kernelRun0_A.sl.HS0_7
  conv_lhs => unfold kernelRun0_A.sl.HS0_6
  refine canon_two _ _ _ rfl rfl _ _ _ (fun x => ?_) (fun x => ?_)
  · obtain ⟨r, o, rfl⟩ : ∃ (r : Fin 384) (o : Fin 512), x = ix2 r o := ⟨x 0, x 1, eq_ix2 x⟩
    simp only [View.readAt_eq_ld, Memref.IsWhole.read_unread, kernelRun0_A.sl.r_2]
    pointwise [k0_pay11, k0_pay10, k0_pay9]
    exact part_step x0 x1 x2 _ _ (0 + 1 * r.val) rfl _ _ _ _ (load_top _ _ _ (acc4 c arg1 harg1 arg2 harg2 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 128) (o : Fin 512), x = ix2 r o := ⟨x 0, x 1, eq_ix2 x⟩
    simp only [View.readAt_eq_ld, Memref.IsWhole.read_unread, kernelRun0_A.sl.r_1]
    pointwise [k0_pay12, k0_pay9]
    exact part_step x0 x1 x2 _ _ (384 + 1 * r.val) rfl _ _ _ _ (load_bottom _ _ _ rfl _ _ _ (acc4 c arg1 harg1 arg2 harg2 arg3 harg3 arg10 x0 x1 x2) _) rfl (Fin.ext (by show o.val = 0 + 1 * o.val; omega))
      fun k => slab_second x0 x1 _ _ k (by show _ = 0 + 4; omega) (by dsimp only; omega)

/-- After 6 taps. -/
theorem acc6 : View.canon (kernelRun0_A.sl.HS0_9 c arg1 harg1 arg2 harg2 arg3 harg3 arg10 x0 x1 x2) = part x0 x1 x2 5 (by decide) := by
  unfold kernelRun0_A.sl.HS0_9
  conv_lhs => unfold kernelRun0_A.sl.HS0_8
  refine canon_two _ _ _ rfl rfl _ _ _ (fun x => ?_) (fun x => ?_)
  · obtain ⟨r, o, rfl⟩ : ∃ (r : Fin 384) (o : Fin 512), x = ix2 r o := ⟨x 0, x 1, eq_ix2 x⟩
    simp only [View.readAt_eq_ld, Memref.IsWhole.read_unread]
    pointwise [k0_pay14, k0_pay13]
    exact part_step x0 x1 x2 _ _ (0 + 1 * r.val) rfl _ _ _ _ (load_top _ _ _ (acc5 c arg1 harg1 arg2 harg2 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 128) (o : Fin 512), x = ix2 r o := ⟨x 0, x 1, eq_ix2 x⟩
    simp only [View.readAt_eq_ld, Memref.IsWhole.read_unread, kernelRun0_A.sl.r_3, kernelRun0_A.sl.r_4]
    pointwise [k0_pay16, k0_pay13, k0_pay15]
    exact part_step x0 x1 x2 _ _ (384 + 1 * r.val) rfl _ _ _ _ (load_bottom _ _ _ rfl _ _ _ (acc5 c arg1 harg1 arg2 harg2 arg3 harg3 arg10 x0 x1 x2) _) rfl (Fin.ext (by show o.val = 0 + 1 * o.val; omega))
      fun k => slab_second x0 x1 _ _ k (by show _ = 0 + 4; omega) (by dsimp only; omega)

/-- After 7 taps. -/
theorem acc7 : View.canon (kernelRun0_A.sl.HS0_11 c arg1 harg1 arg2 harg2 arg3 harg3 arg10 x0 x1 x2) = part x0 x1 x2 6 (by decide) := by
  unfold kernelRun0_A.sl.HS0_11
  conv_lhs => unfold kernelRun0_A.sl.HS0_10
  refine canon_two _ _ _ rfl rfl _ _ _ (fun x => ?_) (fun x => ?_)
  · obtain ⟨r, o, rfl⟩ : ∃ (r : Fin 256) (o : Fin 512), x = ix2 r o := ⟨x 0, x 1, eq_ix2 x⟩
    simp only [View.readAt_eq_ld, Memref.IsWhole.read_unread]
    pointwise [k0_pay18, k0_pay17]
    exact part_step x0 x1 x2 _ _ (0 + 1 * r.val) rfl _ _ _ _ (load_top _ _ _ (acc6 c arg1 harg1 arg2 harg2 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 256) (o : Fin 512), x = ix2 r o := ⟨x 0, x 1, eq_ix2 x⟩
    simp only [View.readAt_eq_ld, Memref.IsWhole.read_unread]
    pointwise [k0_pay19, k0_pay17]
    exact part_step x0 x1 x2 _ _ (256 + 1 * r.val) rfl _ _ _ _ (load_bottom _ _ _ rfl _ _ _ (acc6 c arg1 harg1 arg2 harg2 arg3 harg3 arg10 x0 x1 x2) _) rfl (Fin.ext (by show o.val = 0 + 1 * o.val; omega))
      fun k => slab_second x0 x1 _ _ k (by dsimp only; omega) (by dsimp only; omega)

/-- After 8 taps. -/
theorem acc8 : View.canon (kernelRun0_A.sl.HS0_13 c arg1 harg1 arg2 harg2 arg3 harg3 arg10 x0 x1 x2) = part x0 x1 x2 7 (by decide) := by
  unfold kernelRun0_A.sl.HS0_13
  conv_lhs => unfold kernelRun0_A.sl.HS0_12
  refine canon_two _ _ _ rfl rfl _ _ _ (fun x => ?_) (fun x => ?_)
  · obtain ⟨r, o, rfl⟩ : ∃ (r : Fin 256) (o : Fin 512), x = ix2 r o := ⟨x 0, x 1, eq_ix2 x⟩
    simp only [View.readAt_eq_ld, Memref.IsWhole.read_unread, kernelRun0_A.sl.r_5, kernelRun0_A.sl.r_6]
    pointwise [k0_pay22, k0_pay20, k0_pay21]
    exact part_step x0 x1 x2 _ _ (0 + 1 * r.val) rfl _ _ _ _ (load_top _ _ _ (acc7 c arg1 harg1 arg2 harg2 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 256) (o : Fin 512), x = ix2 r o := ⟨x 0, x 1, eq_ix2 x⟩
    simp only [View.readAt_eq_ld, Memref.IsWhole.read_unread, kernelRun0_A.sl.r_5]
    pointwise [k0_pay23, k0_pay20]
    exact part_step x0 x1 x2 _ _ (256 + 1 * r.val) rfl _ _ _ _ (load_bottom _ _ _ rfl _ _ _ (acc7 c arg1 harg1 arg2 harg2 arg3 harg3 arg10 x0 x1 x2) _) rfl (Fin.ext (by show o.val = 0 + 1 * o.val; omega))
      fun k => slab_second x0 x1 _ _ k (by dsimp only; omega) (by dsimp only; omega)

/-- After 9 taps. -/
theorem acc9 : View.canon (kernelRun0_A.sl.HS0_15 c arg1 harg1 arg2 harg2 arg3 harg3 arg10 x0 x1 x2) = part x0 x1 x2 8 (by decide) := by
  unfold kernelRun0_A.sl.HS0_15
  conv_lhs => unfold kernelRun0_A.sl.HS0_14
  refine canon_two _ _ _ rfl rfl _ _ _ (fun x => ?_) (fun x => ?_)
  · obtain ⟨r, o, rfl⟩ : ∃ (r : Fin 256) (o : Fin 512), x = ix2 r o := ⟨x 0, x 1, eq_ix2 x⟩
    simp only [View.readAt_eq_ld, Memref.IsWhole.read_unread]
    pointwise [k0_pay25, k0_pay24]
    exact part_step x0 x1 x2 _ _ (0 + 1 * r.val) rfl _ _ _ _ (load_top _ _ _ (acc8 c arg1 harg1 arg2 harg2 arg3 harg3 arg10 x0 x1 x2) _ _) rfl (Fin.ext (by show o.val = 0 + 1 * o.val; omega))
      fun k => slab_first x0 x1 _ _ k (by dsimp only; omega) (by dsimp only; omega)
  · obtain ⟨r, o, rfl⟩ : ∃ (r : Fin 256) (o : Fin 512), x = ix2 r o := ⟨x 0, x 1, eq_ix2 x⟩
    simp only [View.readAt_eq_ld, Memref.IsWhole.read_unread, kernelRun0_A.sl.r_7, kernelRun0_A.sl.r_8]
    pointwise [k0_pay27, k0_pay24, k0_pay26]
    exact part_step x0 x1 x2 _ _ (256 + 1 * r.val) rfl _ _ _ _ (load_bottom _ _ _ rfl _ _ _ (acc8 c arg1 harg1 arg2 harg2 arg3 harg3 arg10 x0 x1 x2) _) rfl (Fin.ext (by show o.val = 0 + 1 * o.val; omega))
      fun k => slab_second x0 x1 _ _ k (by dsimp only; omega) (by dsimp only; omega)

end Cert.KernelIdeal.Val
end
-- ==== Proof.Body.lean ====
/- What one grid point leaves in its output block, element by element. -/
module
public import proofs.«01_k».proof.Proof.Accum
@[expose] public section
set_option maxRecDepth 16384
noncomputable section
namespace Cert.KernelIdeal.Val
open Idealize.ShloMosaic Idealize.ShloMosaic.TcCoe Idealize.ShloMosaic.Tactic Cert.KernelIdeal.Gen

/-- The row number divided by the image width, as the kernel computes it: a signed division with its floor correction. -/
theorem row_word (r : Fin 512) : (Scalar.select
            (IntOp.andi
              (IntOp.cmpi CmpIPredicate.ne
                (IntOp.subi (BitVec.setWidth 32 (IntOp.cmpi CmpIPredicate.sgt (BitVec.ofNat 32 r.val) 0#32))
                  (BitVec.setWidth 32 (IntOp.cmpi CmpIPredicate.slt (BitVec.ofNat 32 r.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 r.val) 128#32) 0#32))
            (IntOp.subi (IntOp.divsi ArithUnit.vector (BitVec.ofNat 32 r.val) 128#32) 1#32)
            (IntOp.divsi ArithUnit.vector (BitVec.ofNat 32 r.val) 128#32)) = BitVec.ofNat 32 (r.val / 128) := by
  revert r
  decide +kernel

/-- The first coordinate of a pixel as the kernel computes it, an integer word: no overflow. -/
theorem first_word (i : Fin 32) (q : Fin 4) :
    (IntOp.addi (Scalar.muli (BitVec.ofNat 32 i.val) 64#32) (IntOp.muli (BitVec.ofNat 32 q.val) 16#32)).toInt = ((16 * (4 * i.val + q.val) : ℕ) : ℤ) := by
  revert i q
  decide +kernel

/-- The first coordinate of row `r`'s pixel at grid point `i`: sixteen times its image row. -/
theorem pay32_apply (i : Fin 32) (r : Fin 512) (o : Fin 1) :
    k0_pay32 (F := Ideal) kernelRun0_A.sl.v166 (Scalar.muli (BitVec.ofNat 32 i.val) 64#32) (128#32) k0_pay29 k0_pay30 k0_pay31 (ix2 r o)
      = ((((16 * (4 * i.val + r.val / 128) : ℕ) : ℤ) : ℝ) : EReal) := by
  pointwise [k0_pay32, kernelRun0_A.sl.v166, k0_pay29, k0_pay30, k0_pay31]
  rw [row_word r]
  have h := first_word i ⟨r.val / 128, by have := r.isLt; omega⟩
  show (((BitVec.toInt _ : ℤ) : ℝ) : EReal) = _
  rw [h]

/-- The second coordinate of row `r`'s pixel: sixteen times its image column. -/
theorem pay33_apply (r : Fin 512) (o : Fin 1) :
    k0_pay33 (F := Ideal) kernelRun0_A.sl.v166 (ix2 r o) = ((((16 * (r.val % 128) : ℕ) : ℤ) : ℝ) : EReal) := by
  pointwise [k0_pay33, kernelRun0_A.sl.v166]
  have h : ∀ r : Fin 512, (IntOp.muli
        (Scalar.select
          (IntOp.andi
            (IntOp.xori
              (IntOp.cmpi CmpIPredicate.slt
                (IntOp.remsi ArithUnit.vector (BitVec.ofNat 32 r.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 r.val)
                (Scalar.select (Scalar.cmpi CmpIPredicate.eq 128#32 0#32) 1#32 128#32))
              0#32))
          (IntOp.addi
            (IntOp.remsi ArithUnit.vector (BitVec.ofNat 32 r.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 r.val)
            (Scalar.select (Scalar.cmpi CmpIPredicate.eq 128#32 0#32) 1#32 128#32)))
        16#32).toInt = ((16 * (r.val % 128) : ℕ) : ℤ) := by decide +kernel
  show (((BitVec.toInt _ : ℤ) : ℝ) : EReal) = _
  rw [h]

/-- The kernel's choice among a lane's three functions is the choice by the lane's number. -/
theorem lane_select (l : Fin 45) (s e h : EReal) :
    Scalar.select (IntOp.cmpi CmpIPredicate.sge (BitVec.ofNat 32 l.val) 36#32) s
        (Scalar.select (IntOp.andi (IntOp.cmpi CmpIPredicate.sge (BitVec.ofNat 32 l.val) 18#32) (IntOp.cmpi CmpIPredicate.slt (BitVec.ofNat 32 l.val) 36#32)) e h)
      = if 36 ≤ l.val then s else if 18 ≤ l.val then e else h := by
  have h1 : ∀ l : Fin 45, (IntOp.cmpi CmpIPredicate.sge (BitVec.ofNat 32 l.val) 36#32 = 1) ↔ 36 ≤ l.val := by decide +kernel
  have h2 : ∀ l : Fin 45, ¬ 36 ≤ l.val → ((IntOp.andi (IntOp.cmpi CmpIPredicate.sge (BitVec.ofNat 32 l.val) 18#32) (IntOp.cmpi CmpIPredicate.slt (BitVec.ofNat 32 l.val) 36#32) = 1) ↔ 18 ≤ l.val) := by
    decide +kernel
  unfold Scalar.select
  by_cases h36 : 36 ≤ l.val
  · rw [if_pos ((h1 l).mpr h36), if_pos h36]
  · rw [if_neg (fun h => h36 ((h1 l).mp h)), if_neg h36]
    exact if_congr (h2 l h36) rfl rfl

/-- The kernel's choice of a lane's coordinate offset is the choice by the lane's number. -/
theorem pos_select (l : Fin 45) (a b : EReal) :
    Scalar.select (IntOp.cmpi CmpIPredicate.slt (BitVec.ofNat 32 l.val) 9#32) a (Scalar.select (IntOp.cmpi CmpIPredicate.slt (BitVec.ofNat 32 l.val) 18#32) b 0)
      = if l.val < 9 then a else if l.val < 18 then b else 0 := by
  have h1 : ∀ l : Fin 45, (IntOp.cmpi CmpIPredicate.slt (BitVec.ofNat 32 l.val) 9#32 = 1) ↔ l.val < 9 := by decide +kernel
  have h2 : ∀ l : Fin 45, (IntOp.cmpi CmpIPredicate.slt (BitVec.ofNat 32 l.val) 18#32 = 1) ↔ l.val < 18 := by decide +kernel
  unfold Scalar.select
  exact if_congr (h1 l) rfl (if_congr (h2 l) rfl rfl)

/-- One element of the head product: the rectified accumulator's row against a column of the head weights, plus its bias. -/
def headOf (x0 x1 : Vec Ideal S4x130x1024 .fp8e4m3) (x2 : Vec Ideal S9x1024x512 .fp8e4m3) (x3 : Vec Ideal S1x512 .f32) (x4 : Vec Ideal S512x45 .bf16) (x5 : Vec Ideal S1x45 .f32)
    (r : Fin 512) (l : Fin 45) : EReal :=
  ∑ k : Fin 512, max (part x0 x1 x2 8 (by decide) (ix2 r k) + x3 (ix2 0 k)) 0 * x4 (ix2 k l) + x5 (ix2 0 l)

/-- One element of an output block from the blocks of the eight inputs: the scaled function of the head's element, plus the lane's offset and the pixel's coordinate. -/
def outOf (x0 x1 : Vec Ideal S4x130x1024 .fp8e4m3) (x2 : Vec Ideal S9x1024x512 .fp8e4m3) (x3 : Vec Ideal S1x512 .f32) (x4 : Vec Ideal S512x45 .bf16) (x5 x6 x7 : Vec Ideal S1x45 .f32)
    (t : ℕ) (r : Fin 512) (l : Fin 45) : EReal :=
  x6 (ix2 0 l) * (if 36 ≤ l.val then Ideal.logistic (headOf x0 x1 x2 x3 x4 x5 r l) else if 18 ≤ l.val then Ideal.exp (headOf x0 x1 x2 x3 x4 x5 r l) else headOf x0 x1 x2 x3 x4 x5 r l)
    + x7 (ix2 0 l)
    + (if l.val < 9 then ((((16 * (4 * t + r.val / 128) : ℕ) : ℤ) : ℝ) : EReal) else if l.val < 18 then ((((16 * (r.val % 128) : ℕ) : ℤ) : ℝ) : EReal) else 0)

/-- The grid has one axis, whose coordinate is the point's number. -/
theorem coord_eq (t : Fin cfg0.N) : (grid0.coords t 0).val = t.val := by
  revert t
  decide +kernel

variable (m : (ℓ : Loc nD τ sig) → Buf (Elt Ideal) ℓ)

/-- What grid point `t` leaves at row `r`, lane `l` of its output block. -/
theorem outs_apply (c : Dev nD) (t : Fin cfg0.N) (r : Fin 512) (l : Fin 45) :
    outsAt0 m c t (ix2 r l)
      = outOf (iblk m c 0 t) (iblk m c 1 t) (iblk m c 2 t) (iblk m c 3 t) (iblk m c 4 t) (iblk m c 5 t) (iblk m c 6 t) (iblk m c 7 t) t.val r l := by
  unfold outsAt0 out0_A_8
  unfold kernelRun0_A
  dsimp only
  rw [View.read_writes_junk_eq_canon, View.canon_cons_unit_lit' (h := by decide)]
  simp only [kernelRun0_A.sl.r_10, kernelRun0_A.sl.r_11, kernelRun0_A.sl.r_9, View.readAt_eq_ld, Memref.IsWhole.read_unread]
  pointwise [k0_pay1, k0_pay34, k0_pay28, kernelRun0_A.sl.v216, k0_pay35]
  have hv : ∀ k : Fin 512, kernelRun0_A.sl.v151 c (ms0_0 t) (hs0_0 t) (ms0_1 t) (hs0_1 t) (ms0_2 t) (hs0_2 t) scM0_0 (iblk m c 0 t) (iblk m c 1 t) (iblk m c 2 t) (ix2 r k)
      = part (iblk m c 0 t) (iblk m c 1 t) (iblk m c 2 t) 8 (by decide) (ix2 r k) := fun k =>
    (load_top _ _ _ (acc9 c (ms0_0 t) (hs0_0 t) (ms0_1 t) (hs0_1 t) (ms0_2 t) (hs0_2 t) scM0_0 (iblk m c 0 t) (iblk m c 1 t) (iblk m c 2 t)) _ _).trans
      (congrArg _ (whole_emb _ r k))
  have h32 := pay32_apply (grid0.coords t 0) r 0
  rw [coord_eq t] at h32
  simp only [hv]
  rw [lane_select, pos_select, pay33_apply]
  refine congrArg₂ _ rfl ?_
  exact if_congr Iff.rfl ((by unfold kernelRun0_A.sl.v167; rw [coord_eq t]; exact h32) : _ = _) rfl

end Cert.KernelIdeal.Val
end
-- ==== Proof.HostIn.lean ====
/- What the kernel's host operations hand to the launch, element by element. -/
module
public import proofs.«01_k».proof.Proof.Gen.KernelIdeal.Frame
public import proofs.«01_k».proof.Proof.Spec
public import Idealize.ShloMosaic.Lib.StableHlo.RunRead
public import Idealize.ShloMosaic.Lib.Pointwise
@[expose] public section
set_option maxRecDepth 16384
noncomputable section
namespace Cert.KernelIdeal.Val
open Cert.KernelIdeal Cert.KernelIdeal.Gen Idealize.ShloMosaic Idealize.ShloMosaic.TcCoe Idealize.SL.Sem Idealize.ShloMosaic.StableHlo Idealize.ShloMosaic.Tactic

/-- Rows picked out of a matrix: row `a` of the result is the row the `a`-th index names. -/
theorem gather_rows (x : S18x512.Idx → EReal) (idx : IVec S9x1 32) (a : Fin 9) (o : Fin 512) :
    Host.gather gather_S18x512_S9x1_S9x512_1_0_n_n_0_1_1512 x idx (ix2 a o)
      = x (ix2 ⟨min (idx (ix2 a 0)).toInt.toNat 17, by omega⟩ o) := by
  unfold Host.gather
  congr 1
  funext b
  refine Fin.ext ?_
  show gather_S18x512_S9x1_S9x512_1_0_n_n_0_1_1512.start (ix2 a o) idx b + gather_S18x512_S9x1_S9x512_1_0_n_n_0_1_1512.batchCoord (ix2 a o) b
      + gather_S18x512_S9x1_S9x512_1_0_n_n_0_1_1512.offCoord (ix2 a o) b = _
  rw [GatherDims.batchCoord_eq_zero _ _ _ List.not_mem_nil]
  have hb : b = 0 ∨ b = 1 := by
    match b with
    | ⟨0, _⟩ => exact Or.inl rfl
    | ⟨1, _⟩ => exact Or.inr rfl
  rcases hb with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S18x512_S9x1_S9x512_1_0_n_n_0_1_1512.startIndexMap from List.mem_singleton.mpr rfl)]
    have hs : gather_S18x512_S9x1_S9x512_1_0_n_n_0_1_1512.siIdx (ix2 a o) ⟨List.idxOf (0 : Fin 2) gather_S18x512_S9x1_S9x512_1_0_n_n_0_1_1512.startIndexMap,
        List.idxOf_lt_length_iff.2 (List.mem_singleton.mpr rfl)⟩ = ix2 a 0 := by
      funext c; refine Fin.ext ?_
      match c with
      | ⟨0, _⟩ => rfl
      | ⟨1, _⟩ => rfl
    rw [hs]
    rfl
  · unfold GatherDims.start
    rw [dif_neg (show ¬ (1 : Fin 2) ∈ gather_S18x512_S9x1_S9x512_1_0_n_n_0_1_1512.startIndexMap from by decide)]
    simp only [Nat.zero_add, Nat.add_zero]
    rfl

/-- Entries picked out of a vector. -/
theorem gather_entries (x : S18.Idx → EReal) (idx : IVec S9x1 32) (a : Fin 9) :
    Host.gather gather_S18_S9x1_S9_n_0_n_n_0_1_1 x idx (ix1 a) = x (ix1 ⟨min (idx (ix2 a 0)).toInt.toNat 17, by omega⟩) := by
  unfold Host.gather
  congr 1
  funext b
  refine Fin.ext ?_
  show gather_S18_S9x1_S9_n_0_n_n_0_1_1.start (ix1 a) idx b + gather_S18_S9x1_S9_n_0_n_n_0_1_1.batchCoord (ix1 a) b
      + gather_S18_S9x1_S9_n_0_n_n_0_1_1.offCoord (ix1 a) b = _
  rw [GatherDims.batchCoord_eq_zero _ _ _ List.not_mem_nil]
  have hb : b = 0 := by
    match b with
    | ⟨0, _⟩ => rfl
  rcases hb with rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S18_S9x1_S9_n_0_n_n_0_1_1.startIndexMap from List.mem_singleton.mpr rfl)]
    have hs : gather_S18_S9x1_S9_n_0_n_n_0_1_1.siIdx (ix1 a) ⟨List.idxOf (0 : Fin 1) gather_S18_S9x1_S9_n_0_n_n_0_1_1.startIndexMap,
        List.idxOf_lt_length_iff.2 (List.mem_singleton.mpr rfl)⟩ = ix2 a 0 := by
      funext c; refine Fin.ext ?_
      match c with
      | ⟨0, _⟩ => rfl
      | ⟨1, _⟩ => rfl
    rw [hs]
    rfl

/-- The odd channels' numbers. -/
theorem odd_index : ∀ a : Fin 9, min (lit0 a).toInt.toNat 17 = 2 * a.val + 1 := by decide
/-- Their partners' numbers. -/
theorem partner_index : ∀ a : Fin 9, min (lit1 a).toInt.toNat 17 = (2 * a.val + 10) % 18 := by decide

/-- A vector's row-major position is its index. -/
theorem flat9 (a : Fin 9) : S9.rowMajor (ix1 a) = (a : Fin 9) := Fin.ext (Shape.rowMajor_val_one _)
/-- A vector's row-major position is its index. -/
theorem flat45 (a : Fin 45) : S45.rowMajor (ix1 a) = (a : Fin 45) := Fin.ext (Shape.rowMajor_val_one _)

variable (W : Valuation τ sig (Elt Ideal))

/-- The kernel's arguments over their plain indices. -/
def args : Spec.Args where
  x := fun c h v => W (Proc.devRef .tc main_arg0) (ix4 0 c h v)
  bw := fun o c a b => W (Proc.devRef .tc main_arg1) (ix4 o c a b)
  bb := fun o => W (Proc.devRef .tc main_arg2) (ix1 o)
  cw := fun j o => W (Proc.devRef .tc main_arg3) (ix4 j o 0 0)
  cb := fun j => W (Proc.devRef .tc main_arg4) (ix1 j)
  rw := fun j o => W (Proc.devRef .tc main_arg5) (ix4 j o 0 0)
  rb := fun j => W (Proc.devRef .tc main_arg6) (ix1 j)

/-- The bordered input, channels last. -/
theorem xp_read (a : Fin 132) (b : Fin 130) (k : Fin 1024) :
   (show Vec Ideal S132x130x1024 .fp8e4m3 from after (List.flatten [hostOps0]) W (Proc.devRef .tc main_call0_v3)) (ix3 a b k) = Spec.padded (args W) k a.val b.val := by
  simp only [List.flatten_cons, List.flatten_nil, List.append_nil]
  after_reads_simp
  simp only [TRef.toBuf, TRef.ofBuf, cast_eq]
  pointwise []
  have hz : (FloatOps.sitofp .f32 0#32 : Ideal .f32) = (0 : EReal) := by
    show (((BitVec.toInt 0#32 : ℤ) : ℝ) : EReal) = 0
    simp
  simp only [Spec.padded, args, hz]

/-- The convolution's weights, tap first, scaled by 64. -/
theorem w9_read (t : Fin 9) (k : Fin 1024) (o : Fin 512) :
   (show Vec Ideal S9x1024x512 .fp8e4m3 from after (List.flatten [hostOps0]) W (Proc.devRef .tc main_call0_v8)) (ix3 t k o)
     = (args W).bw o k ⟨t.val / 3, by omega⟩ ⟨t.val % 3, by omega⟩ * ((64 : ℝ) : EReal) := by
  simp only [List.flatten_cons, List.flatten_nil, List.append_nil]
  after_reads_simp
  simp only [TRef.toBuf, TRef.ofBuf, cast_eq]
  pointwise []
  rw [Spec.bits64]
  rfl

/-- The convolution's bias scaled by 64. -/
theorem bb_read (o : Fin 512) :
   (show Vec Ideal S1x512 .f32 from after (List.flatten [hostOps0]) W (Proc.devRef .tc main_call0_v11)) (ix2 0 o) = (args W).bb o * ((64 : ℝ) : EReal) := by
  simp only [List.flatten_cons, List.flatten_nil, List.append_nil]
  after_reads_simp
  simp only [TRef.toBuf, TRef.ofBuf, cast_eq]
  pointwise []
  rw [Spec.bits64]
  rfl

/-- The box weight of a lane below 36, or the class weights' difference of a lane above. -/
def laneW (A : Spec.Args) (l : Fin 45) (o : Fin 512) : EReal :=
  if h : l.val < 36 then A.rw ⟨l.val % 9 * 4 + l.val / 9, by omega⟩ o
  else A.cw ⟨2 * (l.val - 36) + 1, by omega⟩ o - A.cw ⟨(2 * (l.val - 36) + 10) % 18, by omega⟩ o

/-- The head's weights scaled down by 64. -/
theorem hw_read (o : Fin 512) (l : Fin 45) :
   (show Vec Ideal S512x45 .bf16 from after (List.flatten [hostOps0]) W (Proc.devRef .tc main_call0_v32)) (ix2 o l) = Ideal.div (laneW (args W) l o) ((64 : ℝ) : EReal) := by
  simp only [List.flatten_cons, List.flatten_nil, List.append_nil]
  after_reads_simp
  simp only [TRef.toBuf, TRef.ofBuf, cast_eq]
  pointwise []
  after_reads_simp
  simp only [TRef.toBuf, TRef.ofBuf, cast_eq]
  rw [Spec.bits64]
  pointwise [gather_rows]
  simp only [flat9, odd_index, partner_index]
  rfl

/-- The box bias of a lane below 36, or the class biases' difference of a lane above. -/
def laneB (A : Spec.Args) (l : Fin 45) : EReal :=
  if h : l.val < 36 then A.rb ⟨l.val % 9 * 4 + l.val / 9, by omega⟩
  else A.cb ⟨2 * (l.val - 36) + 1, by omega⟩ - A.cb ⟨(2 * (l.val - 36) + 10) % 18, by omega⟩

/-- The head's biases. -/
theorem hb_read (l : Fin 45) :
   (show Vec Ideal S1x45 .f32 from after (List.flatten [hostOps0]) W (Proc.devRef .tc main_call0_v48)) (ix2 0 l) = laneB (args W) l := by
  simp only [List.flatten_cons, List.flatten_nil, List.append_nil]
  after_reads_simp
  simp only [TRef.toBuf, TRef.ofBuf, cast_eq]
  pointwise []
  after_reads_simp
  simp only [TRef.toBuf, TRef.ofBuf, cast_eq]
  pointwise [gather_entries]
  simp only [flat9, odd_index, partner_index]
  rfl

/-- The factor of each lane. -/
theorem lm_read (l : Fin 45) :
   (show Vec Ideal S1x45 .f32 from after (List.flatten [hostOps0]) W (Proc.devRef .tc main_call0_v49)) (ix2 0 l) = Ideal.ofBits .f32 (lit2 l) := by
  simp only [List.flatten_cons, List.flatten_nil, List.append_nil]
  after_reads_simp
  simp only [TRef.toBuf, TRef.ofBuf, cast_eq]
  pointwise []
  rw [flat45]

/-- The offset of each lane. -/
theorem la_read (l : Fin 45) :
   (show Vec Ideal S1x45 .f32 from after (List.flatten [hostOps0]) W (Proc.devRef .tc main_call0_v50)) (ix2 0 l) = Ideal.ofBits .f32 (lit3 l) := by
  simp only [List.flatten_cons, List.flatten_nil, List.append_nil]
  after_reads_simp
  simp only [TRef.toBuf, TRef.ofBuf, cast_eq]
  pointwise []
  rw [flat45]

/-- The result from the launch's output array: the lane of entry `j` of anchor `a` is `9j + a`. -/
theorem tail_read (n : Fin 147456) (j : Fin 5) :
   (show Vec Ideal S147456x5 .f32 from after hostOps1 W (Proc.devRef .tc main_v0)) (ix2 n j)
    = (show Vec Ideal S16384x45 .f32 from W (Proc.devRef .tc main_call0_v51)) (ix2 ⟨n.val / 9, by omega⟩ ⟨j.val * 9 + n.val % 9, by omega⟩) := by
  after_reads_simp
  simp only [TRef.toBuf, TRef.ofBuf, cast_eq]
  pointwise []

end Cert.KernelIdeal.Val
end
-- ==== Proof.Blocks.lean ====
/- The blocks each grid point reads, and the result the launch's output array becomes. -/
module
public import proofs.«01_k».proof.Proof.Body
public import proofs.«01_k».proof.Proof.HostIn
@[expose] public section
set_option maxRecDepth 16384
noncomputable section
namespace Cert.KernelIdeal.Val
open Cert.KernelIdeal Cert.KernelIdeal.Gen Idealize.ShloMosaic Idealize.ShloMosaic.TcCoe Idealize.SL.Sem Idealize.ShloMosaic.StableHlo Idealize.ShloMosaic.Tactic

/-- The windows' block indices: the two input windows move one block of rows per point, one block apart; the output's moves likewise; the others stay. -/
theorem idx (t : Fin cfg0.N) :
    win0_0.index t = ![t.val, 0, 0] ∧ win0_1.index t = ![t.val + 1, 0, 0] ∧ win0_2.index t = ![0, 0, 0] ∧ win0_3.index t = ![0, 0]
      ∧ win0_4.index t = ![0, 0] ∧ win0_5.index t = ![0, 0] ∧ win0_6.index t = ![0, 0] ∧ win0_7.index t = ![0, 0] ∧ win0_8.index t = ![t.val, 0] := by
  revert t
  decide +kernel

variable (m : (ℓ : Loc nD τ sig) → Buf (Elt Ideal) ℓ)

/-- The arguments on core `c`. -/
abbrev argsOf (c : Dev nD) : Spec.Args := args fun b => m (c, b)

/-- Row `p` of the first input block at point `t` is padded row `4t + p`. -/
theorem blk0 (c : Dev nD) (t : Fin cfg0.N) (p : Fin 4) (q : Fin 130) (k : Fin 1024) :
    (show Vec Ideal S4x130x1024 .fp8e4m3 from iblk m c 0 t) (ix3 p q k) = Spec.padded (argsOf m c) k (4 * t.val + p.val) q.val := by
  have hN : cfg0.N = 32 := N_0
  have ht := t.isLt
  rw [show Spec.padded (argsOf m c) k (4 * t.val + p.val) q.val = _ from (xp_read (fun b => m (c, b)) ⟨4 * t.val + p.val, by omega⟩ q k).symm]
  show iblk m c 0 t (ix3 p q k) = V m c main_call0_v3 (ix3 ⟨4 * t.val + p.val, by omega⟩ q k)
  blk_ext [iblk, idx t]

/-- Row `p` of the second input block at point `t` is padded row `4t + 4 + p`. -/
theorem blk1 (c : Dev nD) (t : Fin cfg0.N) (p : Fin 4) (q : Fin 130) (k : Fin 1024) :
    (show Vec Ideal S4x130x1024 .fp8e4m3 from iblk m c 1 t) (ix3 p q k) = Spec.padded (argsOf m c) k (4 * (t.val + 1) + p.val) q.val := by
  have hN : cfg0.N = 32 := N_0
  have ht := t.isLt
  rw [show Spec.padded (argsOf m c) k (4 * (t.val + 1) + p.val) q.val = _ from (xp_read (fun b => m (c, b)) ⟨4 * (t.val + 1) + p.val, by omega⟩ q k).symm]
  show iblk m c 1 t (ix3 p q k) = V m c main_call0_v3 (ix3 ⟨4 * (t.val + 1) + p.val, by omega⟩ q k)
  blk_ext [iblk, idx t]

/-- The weights' block is the weights. -/
theorem blk2 (c : Dev nD) (t : Fin cfg0.N) (s : Fin 9) (k : Fin 1024) (o : Fin 512) :
    (show Vec Ideal S9x1024x512 .fp8e4m3 from iblk m c 2 t) (ix3 s k o) = (argsOf m c).bw o k ⟨s.val / 3, by omega⟩ ⟨s.val % 3, by omega⟩ * ((64 : ℝ) : EReal) := by
  rw [← w9_read]
  show iblk m c 2 t (ix3 s k o) = V m c main_call0_v8 (ix3 s k o)
  blk_ext [iblk, idx t]

/-- The bias' block is the bias. -/
theorem blk3 (c : Dev nD) (t : Fin cfg0.N) (o : Fin 512) :
    (show Vec Ideal S1x512 .f32 from iblk m c 3 t) (ix2 0 o) = (argsOf m c).bb o * ((64 : ℝ) : EReal) := by
  rw [← bb_read]
  show iblk m c 3 t (ix2 0 o) = V m c main_call0_v11 (ix2 0 o)
  blk_ext [iblk, idx t]

/-- The head weights' block is the head weights. -/
theorem blk4 (c : Dev nD) (t : Fin cfg0.N) (o : Fin 512) (l : Fin 45) :
    (show Vec Ideal S512x45 .bf16 from iblk m c 4 t) (ix2 o l) = Ideal.div (laneW (argsOf m c) l o) ((64 : ℝ) : EReal) := by
  rw [← hw_read]
  show iblk m c 4 t (ix2 o l) = V m c main_call0_v32 (ix2 o l)
  blk_ext [iblk, idx t]

/-- The head biases' block is the head biases. -/
theorem blk5 (c : Dev nD) (t : Fin cfg0.N) (l : Fin 45) :
    (show Vec Ideal S1x45 .f32 from iblk m c 5 t) (ix2 0 l) = laneB (argsOf m c) l := by
  rw [← hb_read]
  show iblk m c 5 t (ix2 0 l) = V m c main_call0_v48 (ix2 0 l)
  blk_ext [iblk, idx t]

/-- The factors' block is the factors. -/
theorem blk6 (c : Dev nD) (t : Fin cfg0.N) (l : Fin 45) :
    (show Vec Ideal S1x45 .f32 from iblk m c 6 t) (ix2 0 l) = Ideal.ofBits .f32 (lit2 l) := by
  rw [← lm_read (fun b => m (c, b))]
  show iblk m c 6 t (ix2 0 l) = V m c main_call0_v49 (ix2 0 l)
  blk_ext [iblk, idx t]

/-- The offsets' block is the offsets. -/
theorem blk7 (c : Dev nD) (t : Fin cfg0.N) (l : Fin 45) :
    (show Vec Ideal S1x45 .f32 from iblk m c 7 t) (ix2 0 l) = Ideal.ofBits .f32 (lit3 l) := by
  rw [← la_read (fun b => m (c, b))]
  show iblk m c 7 t (ix2 0 l) = V m c main_call0_v50 (ix2 0 l)
  blk_ext [iblk, idx t]

/-- The launch's output array: row `p` is row `p % 512` of the block of point `p / 512`. -/
def outArr (c : Dev nD) : Vec Ideal S16384x45 .f32 := fun i =>
  outsAt0 m c ⟨(i 0).val / 512, by have hN : cfg0.N = 32 := N_0; have := ValueIdx.idx2_lt0 i; omega⟩
    (ix2 ⟨(i 0).val % 512, by omega⟩ ⟨(i 1).val, ValueIdx.idx2_lt1 i⟩)

/-- The blocks written back tile the output array, which ends holding them. -/
theorem arr_eq (c : Dev nD) : (dats m 0 c).arrAt 8 (cfgs 0).N = outArr m c := by
  refine (dats m 0 c).arrAt_eq_of_covers 8 _ (by decide +kernel) fun t hf y => ?_
  blk_simp
  rw [after0_8]
  have h0 : ((((cfg0.win 8).blk t).view.emb y) 0).val = t.val * 512 + (y 0).val := by blk_simp [idx t]
  have h1 : ((((cfg0.win 8).blk t).view.emb y) 1).val = (y 1).val := by blk_simp [idx t]
  have hy0 : (y 0).val < 512 := (y 0).isLt
  have hy1 : (y 1).val < 45 := (y 1).isLt
  unfold outArr
  have e : ∀ (u u' : Fin cfg0.N) (z z' : S512x45.Idx), u = u' → z = z' → outsAt0 m c u z = outsAt0 m c u' z' := by rintro _ _ _ _ rfl rfl; rfl
  refine e _ _ _ _ (Fin.ext ?_) (funext fun a => Fin.ext ?_)
  · show t.val = ((((cfg0.win 8).blk t).view.emb y) 0).val / 512
    omega
  · match a with
    | ⟨0, _⟩ =>
      show (y 0).val = ((((cfg0.win 8).blk t).view.emb y) 0).val % 512
      omega
    | ⟨1, _⟩ => exact h1.symm

/-- The result after the lines that follow the launch. -/
theorem result_read (c : Dev nD) (n : Fin 147456) (j : Fin 5) :
    (show Vec Ideal S147456x5 .f32 from Pipeline.afterTail₀ cfgs (dats m) 0 (V0 m) [hostOps1] c main_v0) (ix2 n j)
      = outArr m c (ix2 ⟨n.val / 9, by omega⟩ ⟨j.val * 9 + n.val % 9, by omega⟩) := by
  unfold Pipeline.afterTail₀
  simp only [List.flatten_cons, List.flatten_nil, List.append_nil]
  refine (tail_read _ n j).trans ?_
  rw [← arr_eq]
  exact congrFun ((dats m 0 c).withArrays_arrAt sharedIn0 (V0 m c) (A_eq m c) 8) _

end Cert.KernelIdeal.Val
end
-- ==== Proof.Equal.lean ====
/- The kernel's result is the plain head's: the scaling by 64 cancels, and the logistic of a difference is the softmax. -/
module
public import proofs.«01_k».proof.Proof.Blocks
@[expose] public section
set_option maxRecDepth 16384
noncomputable section
namespace Cert.KernelIdeal.Val
open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- The eight rows of the two input blocks at point `t` are the padded rows from `4t` on. -/
theorem slab_eq (c : Dev nD) (t : Fin cfg0.N) (r q : ℕ) (hr : r < 8) (hq : q < 130) (k : Fin 1024) :
    slab (iblk m c 0 t) (iblk m c 1 t) r q k = Spec.padded (argsOf m c) k (4 * t.val + r) q := by
  unfold slab
  rw [dif_pos hq]
  by_cases h : r < 4
  · rw [dif_pos h]
    exact blk0 m c t ⟨r, h⟩ ⟨q, hq⟩ k
  · rw [dif_neg h, dif_pos (by omega)]
    refine (blk1 m c t ⟨r - 4, by omega⟩ ⟨q, hq⟩ k).trans ?_
    show Spec.padded _ k (4 * (t.val + 1) + (r - 4)) q = _
    congr 1
    omega

/-- A tap of the kernel is 64 times the plain tap. -/
theorem tap_scaled (c : Dev nD) (t : Fin cfg0.N) (s : Fin 9) (r o : Fin 512) :
    tap (iblk m c 0 t) (iblk m c 1 t) (iblk m c 2 t) s r o
      = Spec.tap (argsOf m c) s o (4 * t.val + r.val / 128) (r.val % 128) * ((64 : ℝ) : EReal) := by
  unfold tap Spec.tap
  rw [← Spec.sum_mul_coe _ _ (by norm_num)]
  refine Finset.sum_congr rfl fun k _ => ?_
  rw [slab_eq m c t _ _ (by omega) (by omega) k]
  refine (congrArg (Spec.padded (argsOf m c) k (4 * t.val + (r.val / 128 + s.val / 3)) (r.val % 128 + s.val % 3) * ·) (blk2 m c t s k o)).trans ?_
  rw [← mul_assoc, mul_comm (Spec.padded _ _ _ _), show 4 * t.val + (r.val / 128 + s.val / 3) = s.val / 3 + (4 * t.val + r.val / 128) by omega, Nat.add_comm (r.val % 128)]

/-- The accumulator after all nine taps is 64 times the plain convolution. -/
theorem part_scaled (c : Dev nD) (t : Fin cfg0.N) (r o : Fin 512) :
    part (iblk m c 0 t) (iblk m c 1 t) (iblk m c 2 t) 8 (by decide) (ix2 r o)
      = Spec.conv (argsOf m c) o (4 * t.val + r.val / 128) (r.val % 128) * ((64 : ℝ) : EReal) := by
  have h := fun s => tap_scaled m c t s r o
  have h64 : (0 : ℝ) ≤ 64 := by norm_num
  unfold Spec.conv
  simp only [← Spec.add_mul_coe _ _ h64, ← h]
  rfl

/-- The rectified accumulator is 64 times the plain feature. -/
theorem feat_scaled (c : Dev nD) (t : Fin cfg0.N) (r o : Fin 512) :
    max (part (iblk m c 0 t) (iblk m c 1 t) (iblk m c 2 t) 8 (by decide) (ix2 r o) + (show Vec Ideal S1x512 .f32 from iblk m c 3 t) (ix2 0 o)) 0
      = Spec.feat (argsOf m c) o (4 * t.val + r.val / 128) (r.val % 128) * ((64 : ℝ) : EReal) := by
  rw [part_scaled, blk3, Spec.add_mul_coe _ _ (by norm_num), Spec.relu_mul_coe _ (by norm_num)]
  rfl

/-- The head's element: the lane's weights over the plain features, plus the lane's bias. -/
theorem head_eq (c : Dev nD) (t : Fin cfg0.N) (r : Fin 512) (l : Fin 45) :
    headOf (iblk m c 0 t) (iblk m c 1 t) (iblk m c 2 t) (iblk m c 3 t) (iblk m c 4 t) (iblk m c 5 t) r l
      = ∑ o, laneW (argsOf m c) l o * Spec.feat (argsOf m c) o (4 * t.val + r.val / 128) (r.val % 128) + laneB (argsOf m c) l := by
  unfold headOf
  refine congrArg₂ (· + ·) (Finset.sum_congr rfl fun o _ => ?_) (blk5 m c t l)
  refine (congrArg₂ (· * ·) (feat_scaled m c t r o) (blk4 m c t o l)).trans ?_
  exact Spec.scaled_mul _ _

/-- A box lane's element is the box value of its channel. -/
theorem head_box (c : Dev nD) (t : Fin cfg0.N) (r : Fin 512) (l : Fin 45) (hl : l.val < 36) :
    headOf (iblk m c 0 t) (iblk m c 1 t) (iblk m c 2 t) (iblk m c 3 t) (iblk m c 4 t) (iblk m c 5 t) r l
      = Spec.reg (argsOf m c) ⟨l.val % 9 * 4 + l.val / 9, by omega⟩ (4 * t.val + r.val / 128) (r.val % 128) := by
  rw [head_eq]
  unfold laneW laneB Spec.reg
  simp only [dif_pos hl]

/-- A score lane's element is the difference of its two class values, where the arrays are finite. -/
theorem head_score (c : Dev nD) (hA : Spec.Finite (argsOf m c)) (t : Fin cfg0.N) (r : Fin 512) (l : Fin 45) (hl : ¬ l.val < 36) :
    headOf (iblk m c 0 t) (iblk m c 1 t) (iblk m c 2 t) (iblk m c 3 t) (iblk m c 4 t) (iblk m c 5 t) r l
      = Spec.cls (argsOf m c) ⟨2 * (l.val - 36) + 1, by omega⟩ (4 * t.val + r.val / 128) (r.val % 128)
        - Spec.cls (argsOf m c) ⟨(2 * (l.val - 36) + 10) % 18, by omega⟩ (4 * t.val + r.val / 128) (r.val % 128) := by
  rw [head_eq, ← Spec.cls_sub hA]
  unfold laneW laneB
  simp only [dif_neg hl]

/-- The words of the first-coordinate lanes. -/
theorem word_w : ∀ a : Fin 9, lit2 ⟨a.val, by omega⟩ = (![0x43380000#32, 0x43B80000#32, 0x44380000#32, 0x43000000#32, 0x43800000#32, 0x44000000#32, 0x42B00000#32, 0x43300000#32, 0x43B00000#32] : Fin 9 → BitVec 32) a := by decide

/-- The factor of a first-coordinate lane is the anchor's width. -/
theorem factor_w (a : Fin 9) : Ideal.ofBits .f32 (lit2 ⟨a.val, by omega⟩) = Spec.aw a := by
  rw [word_w]
  unfold Spec.aw
  rw [← EReal.coe_mul]
  fin_cases a <;> simp [Spec.baseW, Spec.scale, Ideal.ofBits, Ideal.ieee, -EReal.coe_mul] <;> norm_num

/-- The words of the second-coordinate lanes. -/
theorem word_h : ∀ a : Fin 9, lit2 ⟨9 + a.val, by omega⟩ = (![0x42C00000#32, 0x43400000#32, 0x43C00000#32, 0x43000000#32, 0x43800000#32, 0x44000000#32, 0x43300000#32, 0x43B00000#32, 0x44300000#32] : Fin 9 → BitVec 32) a := by decide

/-- The factor of a second-coordinate lane is the anchor's height. -/
theorem factor_h (a : Fin 9) : Ideal.ofBits .f32 (lit2 ⟨9 + a.val, by omega⟩) = Spec.ah a := by
  rw [word_h]
  unfold Spec.ah
  rw [← EReal.coe_mul]
  fin_cases a <;> simp [Spec.baseH, Spec.scale, Ideal.ofBits, Ideal.ieee, -EReal.coe_mul] <;> norm_num

/-- The other lanes' factor is one. -/
theorem factor_one : ∀ l : Fin 45, 18 ≤ l.val → lit2 l = 0x3F800000#32 := by decide
/-- The lanes with no offset. -/
theorem offset_zero : ∀ l : Fin 45, l.val < 18 ∨ 36 ≤ l.val → lit3 l = 0x00000000#32 := by decide
/-- The offsets of the two size columns are the factors of the two coordinate columns. -/
theorem offset_size : ∀ l : Fin 18, lit3 ⟨18 + l.val, by omega⟩ = lit2 ⟨l.val, by omega⟩ := by decide

/-- The kernel's output element is the plain head's. -/
theorem out_eq (c : Dev nD) (hA : Spec.Finite (argsOf m c)) (t : Fin cfg0.N) (r : Fin 512) (a : Fin 9) (j : Fin 5) :
    outsAt0 m c t (ix2 r ⟨j.val * 9 + a.val, by omega⟩) = Spec.cell (argsOf m c) a j (4 * t.val + r.val / 128) (r.val % 128) := by
  rw [outs_apply]
  unfold outOf
  have h6 := fun l => blk6 m c t l
  have h7 := fun l => blk7 m c t l
  dsimp only at h6 h7
  rw [h6, h7]
  have hreg : ∀ q : Fin 4, j.val = q.val →
      headOf (iblk m c 0 t) (iblk m c 1 t) (iblk m c 2 t) (iblk m c 3 t) (iblk m c 4 t) (iblk m c 5 t) r ⟨j.val * 9 + a.val, by omega⟩
        = Spec.reg (argsOf m c) ⟨a.val * 4 + q.val, by omega⟩ (4 * t.val + r.val / 128) (r.val % 128) := fun q hq => by
    rw [head_box m c t r _ (by show j.val * 9 + a.val < 36; omega)]
    congr 1
    refine Fin.ext ?_
    show (j.val * 9 + a.val) % 9 * 4 + (j.val * 9 + a.val) / 9 = a.val * 4 + q.val
    omega
  unfold Spec.cell
  obtain ⟨j, hj⟩ := j
  match j, hj with
  | 0, hj =>
    rw [hreg 0 rfl, offset_zero _ (Or.inl (by show 0 * 9 + a.val < 18; omega))]
    simp only [Ideal.ofBits_zero_f32]
    rw [if_neg (by omega), if_neg (by omega), if_pos (by omega), if_pos trivial, add_zero, add_comm]
    refine congrArg₂ (· + ·) rfl (congrArg₂ (· * ·) ?_ rfl)
    rw [← factor_w a]
    congr 2
    exact Fin.ext (by show 0 * 9 + a.val = a.val; omega)
  | 1, hj =>
    rw [hreg 1 rfl, offset_zero _ (Or.inl (by show 1 * 9 + a.val < 18; omega))]
    simp only [Ideal.ofBits_zero_f32]
    rw [if_neg (by omega), if_neg (by omega), if_neg (by omega), if_pos (by omega), if_neg (by omega), if_pos trivial, add_zero, add_comm]
    refine congrArg₂ (· + ·) rfl (congrArg₂ (· * ·) ?_ rfl)
    rw [← factor_h a]
  | 2, hj =>
    rw [hreg 2 rfl, factor_one _ (by show 18 ≤ 2 * 9 + a.val; omega)]
    simp only [Ideal.ofBits_one_f32]
    rw [if_neg (by omega), if_pos (by omega), if_neg (by omega), if_neg (by omega), if_neg (by omega), if_neg (by omega), if_pos trivial, add_zero, one_mul, add_comm]
    refine congrArg₂ (· + ·) ?_ rfl
    rw [← factor_w a]
    exact congrArg (Ideal.ofBits .f32) (offset_size ⟨a.val, by omega⟩)
  | 3, hj =>
    rw [hreg 3 rfl, factor_one _ (by show 18 ≤ 3 * 9 + a.val; omega)]
    simp only [Ideal.ofBits_one_f32]
    rw [if_neg (by omega), if_pos (by omega), if_neg (by omega), if_neg (by omega), if_neg (by omega), if_neg (by omega), if_neg (by omega), if_pos trivial, add_zero, one_mul, add_comm]
    refine congrArg₂ (· + ·) ?_ rfl
    rw [← factor_h a, ← offset_size ⟨9 + a.val, by omega⟩]
    congr 2
    exact Fin.ext (by show 3 * 9 + a.val = 18 + (9 + a.val); omega)
  | 4, hj =>
    rw [head_score m c hA t r _ (by show ¬ 4 * 9 + a.val < 36; omega), factor_one _ (by show 18 ≤ 4 * 9 + a.val; omega), offset_zero _ (Or.inr (by show 36 ≤ 4 * 9 + a.val; omega))]
    simp only [Ideal.ofBits_one_f32, Ideal.ofBits_zero_f32]
    rw [if_pos (by omega), if_neg (by omega), if_neg (by omega), if_neg (by omega), if_neg (by omega), if_neg (by omega), if_neg (by omega), add_zero, add_zero, one_mul, Spec.score_eq hA]
    have e : 4 * 9 + a.val - 36 = a.val := by omega
    simp only [e]

/-- The kernel's result at row `n`, column `j`. -/
theorem kernel_read (c : Dev nD) (hA : Spec.Finite (argsOf m c)) (n : Fin 147456) (j : Fin 5) :
    (show Vec Ideal S147456x5 .f32 from Pipeline.afterTail₀ cfgs (dats m) 0 (V0 m) [hostOps1] c main_v0) (ix2 n j)
      = Spec.cell (argsOf m c) ⟨n.val % 9, by omega⟩ j (n.val / 1152) (n.val / 9 % 128) := by
  have hN : cfg0.N = 32 := N_0
  have hn := n.isLt
  rw [result_read]
  refine (out_eq m c hA ⟨n.val / 9 / 512, by omega⟩ ⟨n.val / 9 % 512, by omega⟩ ⟨n.val % 9, by omega⟩ j).trans ?_
  show Spec.cell _ _ j (4 * (n.val / 9 / 512) + n.val / 9 % 512 / 128) (n.val / 9 % 512 % 128) = _
  congr 1 <;> omega

end Cert.KernelIdeal.Val
end
-- ==== Proof.Inputs.lean ====
/- The precondition on the inputs, read as: every element is a real number. -/
module
public import proofs.«01_k».proof.Defs
public import proofs.«01_k».proof.Proof.Blocks
@[expose] public section
set_option maxRecDepth 16384
noncomputable section
namespace Cert.Inputs
open Idealize.ShloMosaic Idealize.ShloMosaic.TcCoe Idealize.SL.Sem Idealize.ShloMosaic.Tactic

/-- The precondition's side conditions hold. -/
theorem facts : Cert.Pre_finite_inputs.Facts := ⟨by decide, by decide, by decide, by decide, by decide⟩

/-- The word `0x7F800000` is positive infinity. -/
theorem bits_top : Ideal.ofBits .f32 0x7F800000#32 = ⊤ := by simp [Ideal.ofBits, Ideal.ieee]

/-- An extended real whose absolute value lies below infinity is a real number. -/
theorem real_of_lt (x : EReal) (h : max x (-x) < ⊤) : Spec.Fin' x := by
  induction x with
  | bot => simp at h
  | coe r => exact ⟨r, rfl⟩
  | top => simp at h

/-- Of an array whose comparison with infinity is one everywhere, every element is a real number. -/
theorem real_of_cmp {s : Shape} (v b : FVec Ideal s .f32) (hb : ∀ i, b i = (⊤ : EReal))
    (h : cmpf .olt (Host.absf v) b = fun _ => 1#1) (i : s.Idx) : Spec.Fin' (v i) := by
  have e : (BitVec.ofBool (decide ((max (v i) (-(v i)) : EReal) < b i))) = 1#1 := congrFun h i
  apply real_of_lt
  by_contra hn
  rw [hb i, decide_eq_false hn] at e
  exact absurd e (by decide)

/-- Under the precondition every array that the scores are made of holds real numbers. -/
theorem finite (m : (ℓ : Loc Cert.KernelIdeal.nD Cert.KernelIdeal.τ Cert.KernelIdeal.sig) → Buf (Elt Ideal) ℓ)
    (h : Cert.Pre_KernelIdeal_finite_inputs (hPre_finite_inputs := facts) m) (c : Dev Cert.KernelIdeal.nD) :
    Spec.Finite (Cert.KernelIdeal.Val.argsOf m c) := by
  obtain ⟨h0, h1, h2, h3, h4⟩ := h c
  exact ⟨fun a b d => real_of_cmp _ _ (fun _ => bits_top) h0 (ix4 0 a b d), fun a b d e => real_of_cmp _ _ (fun _ => bits_top) h1 (ix4 a b d e),
    fun a => real_of_cmp _ _ (fun _ => bits_top) h2 (ix1 a), fun a b => real_of_cmp _ _ (fun _ => bits_top) h3 (ix4 a b 0 0),
    fun a => real_of_cmp _ _ (fun _ => bits_top) h4 (ix1 a)⟩

end Cert.Inputs
end
-- ==== Proof.lean ====
/- The certificate: the three frames, the idealization, and the equation of the kernel and the reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefVal
public import proofs.«01_k».proof.Proof.Equal
public import proofs.«01_k».proof.Proof.Inputs
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Idealize.ShloMosaic.StableHlo Idealize.ShloMosaic.Tactic

section Reference

open Cert.ReferenceIdeal Cert.ReferenceIdeal.Host

variable (m : (ℓ : Loc nD τ sig) → Buf (Elt Ideal) ℓ) (ρ : Dev nD → PrngReg)

/-- Every run of the reference ends with the plain head's array in its result, and its arguments as they were. -/
theorem reference_run : θ_run (defs (F := Ideal)) (onTc (τ := τ) (main (F := Ideal))) ⟨m, fun _ => 0, ρ⟩ fun r => ∀ c : Dev nD,
    r.2.mem ((c.tc : Thread nD τ).loc main_v127) = StableHlo.after ops (launchContents m c) (Proc.devRef .tc main_v127)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun r h c => by
    obtain ⟨k0, k1, k2, k3, k4, k5, k6⟩ := args_kept (launchContents m c)
    exact ⟨h c main_v127, (h c main_arg0).trans k0, (h c main_arg1).trans k1, (h c main_arg2).trans k2, (h c main_arg3).trans k3,
      (h c main_arg4).trans k4, (h c main_arg5).trans k5, (h c main_arg6).trans k6⟩) (run_ops m ρ)

/-- The reference's frame. -/
theorem reference_frame : Cert.quiescent_ReferenceIdeal (hReferenceIdeal := Cert.ReferenceIdeal.Gen.facts) := fun m ρ _ =>
  (θ_run defs _ _).mono (fun r h => ⟨fun c => (h c).2, sem_eq_zero_of_no_sems (by decide) r.2⟩) (reference_run m ρ)

end Reference

open Cert.KernelIdeal Cert.KernelIdeal.Gen Cert.KernelIdeal.Val in
/-- Kernel and reference end with the same array. -/
theorem value : Cert.algebraic_KernelIdeal_ReferenceIdeal_pre_finite_inputs (hKernelIdeal := Cert.KernelIdeal.Gen.facts)
    (hReferenceIdeal := Cert.ReferenceIdeal.Gen.facts) (hPre_finite_inputs := Cert.Inputs.facts) := by
  intro m g m' g' hpre hargs
  refine ⟨fun c => Pipeline.afterTail₀ cfgs (dats m) 0 (V0 m) [hostOps1] c main_v0, ?_, ?_⟩
  · exact (θ_run defs _ _).mono (fun r h c => ⟨(h.1 c).2 main_v0 (Pipeline.mem_restRefs_of main_v0 (by decide) (by decide)), h.2 c⟩)
      (θ_run_and (run_main m g) (unchanged m g))
  · refine (θ_run Cert.ReferenceIdeal.defs _ _).mono (fun r h c => ⟨(h c).1.trans ?_, (h c).2⟩) (reference_run m' g')
    have hA : Cert.ReferenceIdeal.Host.args (launchContents m' c) = argsOf m c := by
      obtain ⟨e0, e1, e2, e3, e4, e5, e6⟩ := hargs c
      refine Spec.Args.ext ?_ ?_ ?_ ?_ ?_ ?_ ?_
      · exact funext fun a => funext fun b => funext fun d => congrFun e0 (ix4 0 a b d)
      · exact funext fun a => funext fun b => funext fun d => funext fun e => congrFun e1 (ix4 a b d e)
      · exact funext fun a => congrFun e2 (ix1 a)
      · exact funext fun a => funext fun b => congrFun e3 (ix4 a b 0 0)
      · exact funext fun a => congrFun e4 (ix1 a)
      · exact funext fun a => funext fun b => congrFun e5 (ix4 a b 0 0)
      · exact funext fun a => congrFun e6 (ix1 a)
    refine funext fun i => ?_
    have hi : i = ix2 (i 0) (i 1) := funext fun a => match a with
      | ⟨0, _⟩ => rfl
      | ⟨1, _⟩ => rfl
    rw [hi]
    refine (Cert.ReferenceIdeal.Host.out_read (launchContents m' c) (i 0) (i 1)).trans ?_
    rw [hA]
    exact (kernel_read m c (Cert.Inputs.finite m hpre c) (i 0) (i 1)).symm

/-- The five claims. -/
theorem claim : Cert.Claim :=
  ⟨Cert.Kernel.Gen.facts, Cert.KernelIdeal.Gen.facts, Cert.ReferenceIdeal.Gen.facts, Cert.Inputs.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, value⟩

end Cert.Proof

end
